-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x512x1024 : Shape := ⟨3, ![2, 512, 1024]⟩
abbrev S512x1024 : Shape := ⟨2, ![512, 1024]⟩
abbrev S8x128 : Shape := ⟨2, ![8, 128]⟩
abbrev S2 : Shape := ⟨1, ![2]⟩
abbrev S8 : Shape := ⟨1, ![8]⟩
abbrev S_ : Shape := ⟨0, ![]⟩
abbrev S512x512 : Shape := ⟨2, ![512, 512]⟩
abbrev S1x512x1024 : Shape := ⟨3, ![1, 512, 1024]⟩
abbrev S1 : Shape := ⟨1, ![1]⟩
abbrev S1x1x1 : Shape := ⟨3, ![1, 1, 1]⟩
abbrev S1x128 : Shape := ⟨2, ![1, 128]⟩
abbrev S1x8x128 : Shape := ⟨3, ![1, 8, 128]⟩

abbrev nBuf : Space → Nat
  | .hbm => 3
  | .vmem => 20
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S512x8192, .f32⟩
  | .local _ .vmem, ⟨0, _⟩ => ⟨S4096x512, .bf16⟩
  | .local _ .vmem, ⟨1, _⟩ => ⟨S512x8192, .bf16⟩
  | .local _ .vmem, ⟨2, _⟩ => ⟨S512x8192, .f32⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S2x512x1024, .bf16⟩
  | .local _ .vmem, ⟨7, _⟩ => ⟨S2x512x1024, .bf16⟩
  | .local _ .vmem, ⟨8, _⟩ => ⟨S2x512x1024, .bf16⟩
  | .local _ .vmem, ⟨9, _⟩ => ⟨S2x512x1024, .bf16⟩
  | .local _ .vmem, ⟨10, _⟩ => ⟨S2x512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 9 51 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_sem0_0 : DmaSem sig := 0
abbrev cc0_sem1_0 : DmaSem sig := 1
abbrev cc0_sem2_0 : DmaSem sig := 2
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.subi v2 c1_i32_10
  let v14 : BitVec 32 := Scalar.subi v13 c0_i32_11
  let c16_i32 : BitVec 32 := 16#32
  let v15 : BitVec 32 := Scalar.addi v14 c16_i32
  let c8_i32_12 : BitVec 32 := 8#32
  let v16 : BitVec 32 := Scalar.remsi v15 c8_i32_12
  let c512_i32 : BitVec 32 := 512#32
  let v17 : BitVec 32 := Scalar.muli v16 c512_i32
  let v18 : Index := Scalar.indexCast v17
  let c0 : Index := 0#32
  ![v18.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_21 : BitVec 32 := 1#32
  let v28 : BitVec 32 := Scalar.muli v7 c1_i32_21
  let v29 : BitVec 32 := Scalar.addi c0_i32_22 v28
  v29.toNat
def k0_off2 (d0 : Dev nD) (c0_i32_28 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v38 : BitVec 32 := Scalar.addi v2 c1_i32_27
  let v39 : BitVec 32 := Scalar.addi v38 c0_i32_28
  let c8_i32_29 : BitVec 32 := 8#32
  let v40 : BitVec 32 := Scalar.remsi v39 c8_i32_29
  let c512_i32_30 : BitVec 32 := 512#32
  let v41 : BitVec 32 := Scalar.muli v40 c512_i32_30
  let v42 : Index := Scalar.indexCast v41
  let c0_31 : Index := 0#32
  ![v42.toNat, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_41 : BitVec 32 := 1#32
  let v52 : BitVec 32 := Scalar.muli v5 c1_i32_41
  let v53 : BitVec 32 := Scalar.addi c0_i32_42 v52
  v53.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_62 : BitVec 32 := 1#32
  let v77 : BitVec 32 := Scalar.muli v7 c1_i32_62
  let v78 : BitVec 32 := Scalar.addi c0_i32_63 v77
  v78.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_82 : BitVec 32 := 1#32
  let v101 : BitVec 32 := Scalar.muli v5 c1_i32_82
  let v102 : BitVec 32 := Scalar.addi c0_i32_83 v101
  v102.toNat
def k0_dev7 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_103 : BitVec 32 := 1#32
  let v126 : BitVec 32 := Scalar.muli v7 c1_i32_103
  let v127 : BitVec 32 := Scalar.addi c0_i32_104 v126
  v127.toNat
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_123 : BitVec 32 := 1#32
  let v150 : BitVec 32 := Scalar.muli v5 c1_i32_123
  let v151 : BitVec 32 := Scalar.addi c0_i32_124 v150
  v151.toNat
def k0_dev9 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_144 : BitVec 32 := 1#32
  let v175 : BitVec 32 := Scalar.muli v7 c1_i32_144
  let v176 : BitVec 32 := Scalar.addi c0_i32_145 v175
  v176.toNat
def k0_dev10 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_164 : BitVec 32 := 1#32
  let v199 : BitVec 32 := Scalar.muli v5 c1_i32_164
  let v200 : BitVec 32 := Scalar.addi c0_i32_165 v199
  v200.toNat
def k0_dev11 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_274 : BitVec 32 := 1#32
  let v339 : BitVec 32 := Scalar.muli v5 c1_i32_274
  let v340 : BitVec 32 := Scalar.addi c0_i32_275 v339
  v340.toNat
def k0_dev12 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_290 : BitVec 32 := 1#32
  let v348 : BitVec 32 := Scalar.muli v7 c1_i32_290
  let v349 : BitVec 32 := Scalar.addi c0_i32_291 v348
  v349.toNat
def k0_dev13 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_316 : BitVec 32 := 1#32
  let v372 : BitVec 32 := Scalar.muli v7 c1_i32_316
  let v373 : BitVec 32 := Scalar.addi c0_i32_317 v372
  v373.toNat
def k0_dev14 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_332 : BitVec 32 := 1#32
  let v381 : BitVec 32 := Scalar.muli v5 c1_i32_332
  let v382 : BitVec 32 := Scalar.addi c0_i32_333 v381
  v382.toNat
def k0_dev15 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_358 : BitVec 32 := 1#32
  let v405 : BitVec 32 := Scalar.muli v5 c1_i32_358
  let v406 : BitVec 32 := Scalar.addi c0_i32_359 v405
  v406.toNat
def k0_dev16 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_374 : BitVec 32 := 1#32
  let v414 : BitVec 32 := Scalar.muli v7 c1_i32_374
  let v415 : BitVec 32 := Scalar.addi c0_i32_375 v414
  v415.toNat
def k0_dev17 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_400 : BitVec 32 := 1#32
  let v438 : BitVec 32 := Scalar.muli v7 c1_i32_400
  let v439 : BitVec 32 := Scalar.addi c0_i32_401 v438
  v439.toNat
def k0_dev18 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_416 : BitVec 32 := 1#32
  let v447 : BitVec 32 := Scalar.muli v5 c1_i32_416
  let v448 : BitVec 32 := Scalar.addi c0_i32_417 v447
  v448.toNat
def k0_dev19 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_442 : BitVec 32 := 1#32
  let v471 : BitVec 32 := Scalar.muli v5 c1_i32_442
  let v472 : BitVec 32 := Scalar.addi c0_i32_443 v471
  v472.toNat
def k0_dev20 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_458 : BitVec 32 := 1#32
  let v480 : BitVec 32 := Scalar.muli v7 c1_i32_458
  let v481 : BitVec 32 := Scalar.addi c0_i32_459 v480
  v481.toNat
def k0_dev21 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_484 : BitVec 32 := 1#32
  let v504 : BitVec 32 := Scalar.muli v7 c1_i32_484
  let v505 : BitVec 32 := Scalar.addi c0_i32_485 v504
  v505.toNat
def k0_dev22 (d0 : Dev nD) : Nat :=
  let c0_i32_501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_500 : BitVec 32 := 1#32
  let v513 : BitVec 32 := Scalar.muli v5 c1_i32_500
  let v514 : BitVec 32 := Scalar.addi c0_i32_501 v513
  v514.toNat
def k0_dev23 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_526 : BitVec 32 := 1#32
  let v537 : BitVec 32 := Scalar.muli v5 c1_i32_526
  let v538 : BitVec 32 := Scalar.addi c0_i32_527 v537
  v538.toNat
def k0_dev24 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_542 : BitVec 32 := 1#32
  let v546 : BitVec 32 := Scalar.muli v7 c1_i32_542
  let v547 : BitVec 32 := Scalar.addi c0_i32_543 v546
  v547.toNat
def k0_dev25 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_568 : BitVec 32 := 1#32
  let v570 : BitVec 32 := Scalar.muli v7 c1_i32_568
  let v571 : BitVec 32 := Scalar.addi c0_i32_569 v570
  v571.toNat
def k0_dev26 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_584 : BitVec 32 := 1#32
  let v579 : BitVec 32 := Scalar.muli v5 c1_i32_584
  let v580 : BitVec 32 := Scalar.addi c0_i32_585 v579
  v580.toNat
def k0_dev27 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_694 : BitVec 32 := 1#32
  let v719 : BitVec 32 := Scalar.muli v5 c1_i32_694
  let v720 : BitVec 32 := Scalar.addi c0_i32_695 v719
  v720.toNat
def k0_dev28 (d0 : Dev nD) : Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_710 : BitVec 32 := 1#32
  let v728 : BitVec 32 := Scalar.muli v7 c1_i32_710
  let v729 : BitVec 32 := Scalar.addi c0_i32_711 v728
  v729.toNat
def k0_dev29 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_736 : BitVec 32 := 1#32
  let v752 : BitVec 32 := Scalar.muli v7 c1_i32_736
  let v753 : BitVec 32 := Scalar.addi c0_i32_737 v752
  v753.toNat
def k0_dev30 (d0 : Dev nD) : Nat :=
  let c0_i32_753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_752 : BitVec 32 := 1#32
  let v761 : BitVec 32 := Scalar.muli v5 c1_i32_752
  let v762 : BitVec 32 := Scalar.addi c0_i32_753 v761
  v762.toNat
def k0_dev31 (d0 : Dev nD) : Nat :=
  let c0_i32_779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_778 : BitVec 32 := 1#32
  let v785 : BitVec 32 := Scalar.muli v5 c1_i32_778
  let v786 : BitVec 32 := Scalar.addi c0_i32_779 v785
  v786.toNat
def k0_dev32 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_794 : BitVec 32 := 1#32
  let v794 : BitVec 32 := Scalar.muli v7 c1_i32_794
  let v795 : BitVec 32 := Scalar.addi c0_i32_795 v794
  v795.toNat
def k0_dev33 (d0 : Dev nD) : Nat :=
  let c0_i32_821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_820 : BitVec 32 := 1#32
  let v818 : BitVec 32 := Scalar.muli v7 c1_i32_820
  let v819 : BitVec 32 := Scalar.addi c0_i32_821 v818
  v819.toNat
def k0_dev34 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_836 : BitVec 32 := 1#32
  let v827 : BitVec 32 := Scalar.muli v5 c1_i32_836
  let v828 : BitVec 32 := Scalar.addi c0_i32_837 v827
  v828.toNat
def k0_dev35 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_862 : BitVec 32 := 1#32
  let v851 : BitVec 32 := Scalar.muli v5 c1_i32_862
  let v852 : BitVec 32 := Scalar.addi c0_i32_863 v851
  v852.toNat
def k0_dev36 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_878 : BitVec 32 := 1#32
  let v860 : BitVec 32 := Scalar.muli v7 c1_i32_878
  let v861 : BitVec 32 := Scalar.addi c0_i32_879 v860
  v861.toNat
def k0_dev37 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_904 : BitVec 32 := 1#32
  let v884 : BitVec 32 := Scalar.muli v7 c1_i32_904
  let v885 : BitVec 32 := Scalar.addi c0_i32_905 v884
  v885.toNat
def k0_dev38 (d0 : Dev nD) : Nat :=
  let c0_i32_921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_920 : BitVec 32 := 1#32
  let v893 : BitVec 32 := Scalar.muli v5 c1_i32_920
  let v894 : BitVec 32 := Scalar.addi c0_i32_921 v893
  v894.toNat
def k0_dev39 (d0 : Dev nD) : Nat :=
  let c0_i32_947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_946 : BitVec 32 := 1#32
  let v917 : BitVec 32 := Scalar.muli v5 c1_i32_946
  let v918 : BitVec 32 := Scalar.addi c0_i32_947 v917
  v918.toNat
def k0_dev40 (d0 : Dev nD) : Nat :=
  let c0_i32_963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_962 : BitVec 32 := 1#32
  let v926 : BitVec 32 := Scalar.muli v7 c1_i32_962
  let v927 : BitVec 32 := Scalar.addi c0_i32_963 v926
  v927.toNat
def k0_dev41 (d0 : Dev nD) : Nat :=
  let c0_i32_989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_988 : BitVec 32 := 1#32
  let v950 : BitVec 32 := Scalar.muli v7 c1_i32_988
  let v951 : BitVec 32 := Scalar.addi c0_i32_989 v950
  v951.toNat
def k0_dev42 (d0 : Dev nD) : Nat :=
  let c0_i32_1005 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1004 : BitVec 32 := 1#32
  let v959 : BitVec 32 := Scalar.muli v5 c1_i32_1004
  let v960 : BitVec 32 := Scalar.addi c0_i32_1005 v959
  v960.toNat
def k0_dev43 (d0 : Dev nD) : Nat :=
  let c0_i32_1114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1113 : BitVec 32 := 1#32
  let v1099 : BitVec 32 := Scalar.muli v5 c1_i32_1113
  let v1100 : BitVec 32 := Scalar.addi c0_i32_1114 v1099
  v1100.toNat
def k0_dev44 (d0 : Dev nD) : Nat :=
  let c0_i32_1130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1129 : BitVec 32 := 1#32
  let v1108 : BitVec 32 := Scalar.muli v7 c1_i32_1129
  let v1109 : BitVec 32 := Scalar.addi c0_i32_1130 v1108
  v1109.toNat
def k0_dev45 (d0 : Dev nD) : Nat :=
  let c0_i32_1156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1155 : BitVec 32 := 1#32
  let v1132 : BitVec 32 := Scalar.muli v7 c1_i32_1155
  let v1133 : BitVec 32 := Scalar.addi c0_i32_1156 v1132
  v1133.toNat
def k0_dev46 (d0 : Dev nD) : Nat :=
  let c0_i32_1172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1171 : BitVec 32 := 1#32
  let v1141 : BitVec 32 := Scalar.muli v5 c1_i32_1171
  let v1142 : BitVec 32 := Scalar.addi c0_i32_1172 v1141
  v1142.toNat
def k0_dev47 (d0 : Dev nD) : Nat :=
  let c0_i32_1198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1197 : BitVec 32 := 1#32
  let v1165 : BitVec 32 := Scalar.muli v5 c1_i32_1197
  let v1166 : BitVec 32 := Scalar.addi c0_i32_1198 v1165
  v1166.toNat
def k0_dev48 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1213 : BitVec 32 := 1#32
  let v1174 : BitVec 32 := Scalar.muli v7 c1_i32_1213
  let v1175 : BitVec 32 := Scalar.addi c0_i32_1214 v1174
  v1175.toNat
def k0_dev49 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1239 : BitVec 32 := 1#32
  let v1198 : BitVec 32 := Scalar.muli v7 c1_i32_1239
  let v1199 : BitVec 32 := Scalar.addi c0_i32_1240 v1198
  v1199.toNat
def k0_dev50 (d0 : Dev nD) : Nat :=
  let c0_i32_1256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1255 : BitVec 32 := 1#32
  let v1207 : BitVec 32 := Scalar.muli v5 c1_i32_1255
  let v1208 : BitVec 32 := Scalar.addi c0_i32_1256 v1207
  v1208.toNat
def k0_dev51 (d0 : Dev nD) : Nat :=
  let c0_i32_1282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1281 : BitVec 32 := 1#32
  let v1231 : BitVec 32 := Scalar.muli v5 c1_i32_1281
  let v1232 : BitVec 32 := Scalar.addi c0_i32_1282 v1231
  v1232.toNat
def k0_dev52 (d0 : Dev nD) : Nat :=
  let c0_i32_1298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1297 : BitVec 32 := 1#32
  let v1240 : BitVec 32 := Scalar.muli v7 c1_i32_1297
  let v1241 : BitVec 32 := Scalar.addi c0_i32_1298 v1240
  v1241.toNat
def k0_dev53 (d0 : Dev nD) : Nat :=
  let c0_i32_1324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1323 : BitVec 32 := 1#32
  let v1264 : BitVec 32 := Scalar.muli v7 c1_i32_1323
  let v1265 : BitVec 32 := Scalar.addi c0_i32_1324 v1264
  v1265.toNat
def k0_dev54 (d0 : Dev nD) : Nat :=
  let c0_i32_1340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1339 : BitVec 32 := 1#32
  let v1273 : BitVec 32 := Scalar.muli v5 c1_i32_1339
  let v1274 : BitVec 32 := Scalar.addi c0_i32_1340 v1273
  v1274.toNat
def k0_dev55 (d0 : Dev nD) : Nat :=
  let c0_i32_1366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1365 : BitVec 32 := 1#32
  let v1297 : BitVec 32 := Scalar.muli v5 c1_i32_1365
  let v1298 : BitVec 32 := Scalar.addi c0_i32_1366 v1297
  v1298.toNat
def k0_dev56 (d0 : Dev nD) : Nat :=
  let c0_i32_1382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1381 : BitVec 32 := 1#32
  let v1306 : BitVec 32 := Scalar.muli v7 c1_i32_1381
  let v1307 : BitVec 32 := Scalar.addi c0_i32_1382 v1306
  v1307.toNat
def k0_dev57 (d0 : Dev nD) : Nat :=
  let c0_i32_1408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1407 : BitVec 32 := 1#32
  let v1330 : BitVec 32 := Scalar.muli v7 c1_i32_1407
  let v1331 : BitVec 32 := Scalar.addi c0_i32_1408 v1330
  v1331.toNat
def k0_dev58 (d0 : Dev nD) : Nat :=
  let c0_i32_1424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1423 : BitVec 32 := 1#32
  let v1339 : BitVec 32 := Scalar.muli v5 c1_i32_1423
  let v1340 : BitVec 32 := Scalar.addi c0_i32_1424 v1339
  v1340.toNat
def k0_dev59 (d0 : Dev nD) : Nat :=
  let c0_i32_1533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1532 : BitVec 32 := 1#32
  let v1479 : BitVec 32 := Scalar.muli v5 c1_i32_1532
  let v1480 : BitVec 32 := Scalar.addi c0_i32_1533 v1479
  v1480.toNat
def k0_dev60 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1548 : BitVec 32 := 1#32
  let v1488 : BitVec 32 := Scalar.muli v7 c1_i32_1548
  let v1489 : BitVec 32 := Scalar.addi c0_i32_1549 v1488
  v1489.toNat
def k0_dev61 (d0 : Dev nD) : Nat :=
  let c0_i32_1575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1574 : BitVec 32 := 1#32
  let v1512 : BitVec 32 := Scalar.muli v7 c1_i32_1574
  let v1513 : BitVec 32 := Scalar.addi c0_i32_1575 v1512
  v1513.toNat
def k0_dev62 (d0 : Dev nD) : Nat :=
  let c0_i32_1591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1590 : BitVec 32 := 1#32
  let v1521 : BitVec 32 := Scalar.muli v5 c1_i32_1590
  let v1522 : BitVec 32 := Scalar.addi c0_i32_1591 v1521
  v1522.toNat
def k0_dev63 (d0 : Dev nD) : Nat :=
  let c0_i32_1617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1616 : BitVec 32 := 1#32
  let v1545 : BitVec 32 := Scalar.muli v5 c1_i32_1616
  let v1546 : BitVec 32 := Scalar.addi c0_i32_1617 v1545
  v1546.toNat
def k0_dev64 (d0 : Dev nD) : Nat :=
  let c0_i32_1633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1632 : BitVec 32 := 1#32
  let v1554 : BitVec 32 := Scalar.muli v7 c1_i32_1632
  let v1555 : BitVec 32 := Scalar.addi c0_i32_1633 v1554
  v1555.toNat
def k0_dev65 (d0 : Dev nD) : Nat :=
  let c0_i32_1659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1658 : BitVec 32 := 1#32
  let v1578 : BitVec 32 := Scalar.muli v7 c1_i32_1658
  let v1579 : BitVec 32 := Scalar.addi c0_i32_1659 v1578
  v1579.toNat
def k0_dev66 (d0 : Dev nD) : Nat :=
  let c0_i32_1675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1674 : BitVec 32 := 1#32
  let v1587 : BitVec 32 := Scalar.muli v5 c1_i32_1674
  let v1588 : BitVec 32 := Scalar.addi c0_i32_1675 v1587
  v1588.toNat
def k0_dev67 (d0 : Dev nD) : Nat :=
  let c0_i32_1701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1700 : BitVec 32 := 1#32
  let v1611 : BitVec 32 := Scalar.muli v5 c1_i32_1700
  let v1612 : BitVec 32 := Scalar.addi c0_i32_1701 v1611
  v1612.toNat
def k0_dev68 (d0 : Dev nD) : Nat :=
  let c0_i32_1717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1716 : BitVec 32 := 1#32
  let v1620 : BitVec 32 := Scalar.muli v7 c1_i32_1716
  let v1621 : BitVec 32 := Scalar.addi c0_i32_1717 v1620
  v1621.toNat
def k0_dev69 (d0 : Dev nD) : Nat :=
  let c0_i32_1743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1742 : BitVec 32 := 1#32
  let v1644 : BitVec 32 := Scalar.muli v7 c1_i32_1742
  let v1645 : BitVec 32 := Scalar.addi c0_i32_1743 v1644
  v1645.toNat
def k0_dev70 (d0 : Dev nD) : Nat :=
  let c0_i32_1759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1758 : BitVec 32 := 1#32
  let v1653 : BitVec 32 := Scalar.muli v5 c1_i32_1758
  let v1654 : BitVec 32 := Scalar.addi c0_i32_1759 v1653
  v1654.toNat
def k0_dev71 (d0 : Dev nD) : Nat :=
  let c0_i32_1785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1784 : BitVec 32 := 1#32
  let v1677 : BitVec 32 := Scalar.muli v5 c1_i32_1784
  let v1678 : BitVec 32 := Scalar.addi c0_i32_1785 v1677
  v1678.toNat
def k0_dev72 (d0 : Dev nD) : Nat :=
  let c0_i32_1801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1800 : BitVec 32 := 1#32
  let v1686 : BitVec 32 := Scalar.muli v7 c1_i32_1800
  let v1687 : BitVec 32 := Scalar.addi c0_i32_1801 v1686
  v1687.toNat
def k0_dev73 (d0 : Dev nD) : Nat :=
  let c0_i32_1827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1826 : BitVec 32 := 1#32
  let v1710 : BitVec 32 := Scalar.muli v7 c1_i32_1826
  let v1711 : BitVec 32 := Scalar.addi c0_i32_1827 v1710
  v1711.toNat
def k0_dev74 (d0 : Dev nD) : Nat :=
  let c0_i32_1843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1842 : BitVec 32 := 1#32
  let v1719 : BitVec 32 := Scalar.muli v5 c1_i32_1842
  let v1720 : BitVec 32 := Scalar.addi c0_i32_1843 v1719
  v1720.toNat
def k0_dev75 (d0 : Dev nD) : Nat :=
  let c0_i32_1952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1951 : BitVec 32 := 1#32
  let v1859 : BitVec 32 := Scalar.muli v5 c1_i32_1951
  let v1860 : BitVec 32 := Scalar.addi c0_i32_1952 v1859
  v1860.toNat
def k0_dev76 (d0 : Dev nD) : Nat :=
  let c0_i32_1968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1967 : BitVec 32 := 1#32
  let v1868 : BitVec 32 := Scalar.muli v7 c1_i32_1967
  let v1869 : BitVec 32 := Scalar.addi c0_i32_1968 v1868
  v1869.toNat
def k0_dev77 (d0 : Dev nD) : Nat :=
  let c0_i32_1994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1993 : BitVec 32 := 1#32
  let v1892 : BitVec 32 := Scalar.muli v7 c1_i32_1993
  let v1893 : BitVec 32 := Scalar.addi c0_i32_1994 v1892
  v1893.toNat
def k0_dev78 (d0 : Dev nD) : Nat :=
  let c0_i32_2010 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2009 : BitVec 32 := 1#32
  let v1901 : BitVec 32 := Scalar.muli v5 c1_i32_2009
  let v1902 : BitVec 32 := Scalar.addi c0_i32_2010 v1901
  v1902.toNat
def k0_dev79 (d0 : Dev nD) : Nat :=
  let c0_i32_2036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2035 : BitVec 32 := 1#32
  let v1925 : BitVec 32 := Scalar.muli v5 c1_i32_2035
  let v1926 : BitVec 32 := Scalar.addi c0_i32_2036 v1925
  v1926.toNat
def k0_dev80 (d0 : Dev nD) : Nat :=
  let c0_i32_2052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2051 : BitVec 32 := 1#32
  let v1934 : BitVec 32 := Scalar.muli v7 c1_i32_2051
  let v1935 : BitVec 32 := Scalar.addi c0_i32_2052 v1934
  v1935.toNat
def k0_dev81 (d0 : Dev nD) : Nat :=
  let c0_i32_2078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2077 : BitVec 32 := 1#32
  let v1958 : BitVec 32 := Scalar.muli v7 c1_i32_2077
  let v1959 : BitVec 32 := Scalar.addi c0_i32_2078 v1958
  v1959.toNat
def k0_dev82 (d0 : Dev nD) : Nat :=
  let c0_i32_2094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2093 : BitVec 32 := 1#32
  let v1967 : BitVec 32 := Scalar.muli v5 c1_i32_2093
  let v1968 : BitVec 32 := Scalar.addi c0_i32_2094 v1967
  v1968.toNat
def k0_dev83 (d0 : Dev nD) : Nat :=
  let c0_i32_2120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2119 : BitVec 32 := 1#32
  let v1991 : BitVec 32 := Scalar.muli v5 c1_i32_2119
  let v1992 : BitVec 32 := Scalar.addi c0_i32_2120 v1991
  v1992.toNat
def k0_dev84 (d0 : Dev nD) : Nat :=
  let c0_i32_2136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2135 : BitVec 32 := 1#32
  let v2000 : BitVec 32 := Scalar.muli v7 c1_i32_2135
  let v2001 : BitVec 32 := Scalar.addi c0_i32_2136 v2000
  v2001.toNat
def k0_dev85 (d0 : Dev nD) : Nat :=
  let c0_i32_2162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2161 : BitVec 32 := 1#32
  let v2024 : BitVec 32 := Scalar.muli v7 c1_i32_2161
  let v2025 : BitVec 32 := Scalar.addi c0_i32_2162 v2024
  v2025.toNat
def k0_dev86 (d0 : Dev nD) : Nat :=
  let c0_i32_2178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2177 : BitVec 32 := 1#32
  let v2033 : BitVec 32 := Scalar.muli v5 c1_i32_2177
  let v2034 : BitVec 32 := Scalar.addi c0_i32_2178 v2033
  v2034.toNat
def k0_dev87 (d0 : Dev nD) : Nat :=
  let c0_i32_2204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2203 : BitVec 32 := 1#32
  let v2057 : BitVec 32 := Scalar.muli v5 c1_i32_2203
  let v2058 : BitVec 32 := Scalar.addi c0_i32_2204 v2057
  v2058.toNat
def k0_dev88 (d0 : Dev nD) : Nat :=
  let c0_i32_2220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2219 : BitVec 32 := 1#32
  let v2066 : BitVec 32 := Scalar.muli v7 c1_i32_2219
  let v2067 : BitVec 32 := Scalar.addi c0_i32_2220 v2066
  v2067.toNat
def k0_dev89 (d0 : Dev nD) : Nat :=
  let c0_i32_2246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2245 : BitVec 32 := 1#32
  let v2090 : BitVec 32 := Scalar.muli v7 c1_i32_2245
  let v2091 : BitVec 32 := Scalar.addi c0_i32_2246 v2090
  v2091.toNat
def k0_dev90 (d0 : Dev nD) : Nat :=
  let c0_i32_2262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2261 : BitVec 32 := 1#32
  let v2099 : BitVec 32 := Scalar.muli v5 c1_i32_2261
  let v2100 : BitVec 32 := Scalar.addi c0_i32_2262 v2099
  v2100.toNat
def k0_dev91 (d0 : Dev nD) : Nat :=
  let c0_i32_2371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2370 : BitVec 32 := 1#32
  let v2239 : BitVec 32 := Scalar.muli v5 c1_i32_2370
  let v2240 : BitVec 32 := Scalar.addi c0_i32_2371 v2239
  v2240.toNat
def k0_dev92 (d0 : Dev nD) : Nat :=
  let c0_i32_2387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2386 : BitVec 32 := 1#32
  let v2248 : BitVec 32 := Scalar.muli v7 c1_i32_2386
  let v2249 : BitVec 32 := Scalar.addi c0_i32_2387 v2248
  v2249.toNat
def k0_dev93 (d0 : Dev nD) : Nat :=
  let c0_i32_2413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2412 : BitVec 32 := 1#32
  let v2272 : BitVec 32 := Scalar.muli v7 c1_i32_2412
  let v2273 : BitVec 32 := Scalar.addi c0_i32_2413 v2272
  v2273.toNat
def k0_dev94 (d0 : Dev nD) : Nat :=
  let c0_i32_2429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2428 : BitVec 32 := 1#32
  let v2281 : BitVec 32 := Scalar.muli v5 c1_i32_2428
  let v2282 : BitVec 32 := Scalar.addi c0_i32_2429 v2281
  v2282.toNat
def k0_dev95 (d0 : Dev nD) : Nat :=
  let c0_i32_2455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2454 : BitVec 32 := 1#32
  let v2305 : BitVec 32 := Scalar.muli v5 c1_i32_2454
  let v2306 : BitVec 32 := Scalar.addi c0_i32_2455 v2305
  v2306.toNat
def k0_dev96 (d0 : Dev nD) : Nat :=
  let c0_i32_2471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2470 : BitVec 32 := 1#32
  let v2314 : BitVec 32 := Scalar.muli v7 c1_i32_2470
  let v2315 : BitVec 32 := Scalar.addi c0_i32_2471 v2314
  v2315.toNat
def k0_dev97 (d0 : Dev nD) : Nat :=
  let c0_i32_2497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2496 : BitVec 32 := 1#32
  let v2338 : BitVec 32 := Scalar.muli v7 c1_i32_2496
  let v2339 : BitVec 32 := Scalar.addi c0_i32_2497 v2338
  v2339.toNat
def k0_dev98 (d0 : Dev nD) : Nat :=
  let c0_i32_2513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2512 : BitVec 32 := 1#32
  let v2347 : BitVec 32 := Scalar.muli v5 c1_i32_2512
  let v2348 : BitVec 32 := Scalar.addi c0_i32_2513 v2347
  v2348.toNat
def k0_dev99 (d0 : Dev nD) : Nat :=
  let c0_i32_2539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2538 : BitVec 32 := 1#32
  let v2371 : BitVec 32 := Scalar.muli v5 c1_i32_2538
  let v2372 : BitVec 32 := Scalar.addi c0_i32_2539 v2371
  v2372.toNat
def k0_dev100 (d0 : Dev nD) : Nat :=
  let c0_i32_2555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2554 : BitVec 32 := 1#32
  let v2380 : BitVec 32 := Scalar.muli v7 c1_i32_2554
  let v2381 : BitVec 32 := Scalar.addi c0_i32_2555 v2380
  v2381.toNat
def k0_dev101 (d0 : Dev nD) : Nat :=
  let c0_i32_2581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2580 : BitVec 32 := 1#32
  let v2404 : BitVec 32 := Scalar.muli v7 c1_i32_2580
  let v2405 : BitVec 32 := Scalar.addi c0_i32_2581 v2404
  v2405.toNat
def k0_dev102 (d0 : Dev nD) : Nat :=
  let c0_i32_2597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2596 : BitVec 32 := 1#32
  let v2413 : BitVec 32 := Scalar.muli v5 c1_i32_2596
  let v2414 : BitVec 32 := Scalar.addi c0_i32_2597 v2413
  v2414.toNat
def k0_dev103 (d0 : Dev nD) : Nat :=
  let c0_i32_2623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2622 : BitVec 32 := 1#32
  let v2437 : BitVec 32 := Scalar.muli v5 c1_i32_2622
  let v2438 : BitVec 32 := Scalar.addi c0_i32_2623 v2437
  v2438.toNat
def k0_dev104 (d0 : Dev nD) : Nat :=
  let c0_i32_2639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2638 : BitVec 32 := 1#32
  let v2446 : BitVec 32 := Scalar.muli v7 c1_i32_2638
  let v2447 : BitVec 32 := Scalar.addi c0_i32_2639 v2446
  v2447.toNat
def k0_dev105 (d0 : Dev nD) : Nat :=
  let c0_i32_2665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2664 : BitVec 32 := 1#32
  let v2470 : BitVec 32 := Scalar.muli v7 c1_i32_2664
  let v2471 : BitVec 32 := Scalar.addi c0_i32_2665 v2470
  v2471.toNat
def k0_dev106 (d0 : Dev nD) : Nat :=
  let c0_i32_2681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2680 : BitVec 32 := 1#32
  let v2479 : BitVec 32 := Scalar.muli v5 c1_i32_2680
  let v2480 : BitVec 32 := Scalar.addi c0_i32_2681 v2479
  v2480.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2822 : Index := Scalar.indexCast v2
  let c0_2986 : Index := 0#32
  ![v2822.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2993 : BitVec 32 := 0#32
  ![v2.toNat, 0]
def k0_dev107 (d0 : Dev nD) : Nat :=
  let c0_i32_2992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2987 : BitVec 32 := 1#32
  let v2826 : BitVec 32 := Scalar.addi v2 c1_i32_2987
  let c8_i32_2988 : BitVec 32 := 8#32
  let v2827 : BitVec 32 := Scalar.remsi v2826 c8_i32_2988
  let c1_i32_2991 : BitVec 32 := 1#32
  let v2828 : BitVec 32 := Scalar.muli v2827 c1_i32_2991
  let v2829 : BitVec 32 := Scalar.addi c0_i32_2992 v2828
  v2829.toNat
def k0_dev108 (d0 : Dev nD) : Nat :=
  let c0_i32_3000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2995 : BitVec 32 := 2#32
  let v2836 : BitVec 32 := Scalar.addi v2 c2_i32_2995
  let c8_i32_2996 : BitVec 32 := 8#32
  let v2837 : BitVec 32 := Scalar.remsi v2836 c8_i32_2996
  let c1_i32_2999 : BitVec 32 := 1#32
  let v2838 : BitVec 32 := Scalar.muli v2837 c1_i32_2999
  let v2839 : BitVec 32 := Scalar.addi c0_i32_3000 v2838
  v2839.toNat
def k0_dev109 (d0 : Dev nD) : Nat :=
  let c0_i32_3008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3003 : BitVec 32 := 3#32
  let v2846 : BitVec 32 := Scalar.addi v2 c3_i32_3003
  let c8_i32_3004 : BitVec 32 := 8#32
  let v2847 : BitVec 32 := Scalar.remsi v2846 c8_i32_3004
  let c1_i32_3007 : BitVec 32 := 1#32
  let v2848 : BitVec 32 := Scalar.muli v2847 c1_i32_3007
  let v2849 : BitVec 32 := Scalar.addi c0_i32_3008 v2848
  v2849.toNat
def k0_dev110 (d0 : Dev nD) : Nat :=
  let c0_i32_3016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3011 : BitVec 32 := 4#32
  let v2856 : BitVec 32 := Scalar.addi v2 c4_i32_3011
  let c8_i32_3012 : BitVec 32 := 8#32
  let v2857 : BitVec 32 := Scalar.remsi v2856 c8_i32_3012
  let c1_i32_3015 : BitVec 32 := 1#32
  let v2858 : BitVec 32 := Scalar.muli v2857 c1_i32_3015
  let v2859 : BitVec 32 := Scalar.addi c0_i32_3016 v2858
  v2859.toNat
def k0_dev111 (d0 : Dev nD) : Nat :=
  let c0_i32_3024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3019 : BitVec 32 := 5#32
  let v2866 : BitVec 32 := Scalar.addi v2 c5_i32_3019
  let c8_i32_3020 : BitVec 32 := 8#32
  let v2867 : BitVec 32 := Scalar.remsi v2866 c8_i32_3020
  let c1_i32_3023 : BitVec 32 := 1#32
  let v2868 : BitVec 32 := Scalar.muli v2867 c1_i32_3023
  let v2869 : BitVec 32 := Scalar.addi c0_i32_3024 v2868
  v2869.toNat
def k0_dev112 (d0 : Dev nD) : Nat :=
  let c0_i32_3032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3027 : BitVec 32 := 6#32
  let v2876 : BitVec 32 := Scalar.addi v2 c6_i32_3027
  let c8_i32_3028 : BitVec 32 := 8#32
  let v2877 : BitVec 32 := Scalar.remsi v2876 c8_i32_3028
  let c1_i32_3031 : BitVec 32 := 1#32
  let v2878 : BitVec 32 := Scalar.muli v2877 c1_i32_3031
  let v2879 : BitVec 32 := Scalar.addi c0_i32_3032 v2878
  v2879.toNat
def k0_dev113 (d0 : Dev nD) : Nat :=
  let c0_i32_3040 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3035 : BitVec 32 := 7#32
  let v2886 : BitVec 32 := Scalar.addi v2 c7_i32_3035
  let c8_i32_3036 : BitVec 32 := 8#32
  let v2887 : BitVec 32 := Scalar.remsi v2886 c8_i32_3036
  let c1_i32_3039 : BitVec 32 := 1#32
  let v2888 : BitVec 32 := Scalar.muli v2887 c1_i32_3039
  let v2889 : BitVec 32 := Scalar.addi c0_i32_3040 v2888
  v2889.toNat
def k0_off5 (d0 : Dev nD) (c1_i32_3043 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2896 : BitVec 32 := Scalar.subi v2 c1_i32_3043
  let c8_i32_3044 : BitVec 32 := 8#32
  let v2897 : BitVec 32 := Scalar.addi v2896 c8_i32_3044
  let c8_i32_3045 : BitVec 32 := 8#32
  let v2898 : BitVec 32 := Scalar.remsi v2897 c8_i32_3045
  let c0_i32_3050 : BitVec 32 := 0#32
  ![v2898.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Program.lean ====
/- The kernel's body as a structured program. The printed body lists 6725 statements one after another; here the same
   statements are written as loops over the eight channels, the hops and the column blocks, with the buffers and
   semaphores in tables indexed by the channel. `body_eq` says that the two are the same program. -/
module

public import proofs.«01_k».proof.Proof.Gen.KernelIdeal
public import proofs.«01_k».proof.Proof.Gen.KernelIdeal.Skeleton

@[expose] public section

noncomputable section

namespace Cert.KernelIdeal.Ring8

open Idealize.ShloMosaic Idealize.SL.Sem Cert.KernelIdeal Cert.KernelIdeal.Gen

variable {F : FTy → Type} [FloatOps F]

/-- A program of one TensorCore of this kernel. -/
abbrev P (F : FTy → Type) := Prog (TpuEff nD τ sig (Elt F) Λ₀ .tc) PUnit

/-! ## The tables -/

/-- The order in which the kernel serves its channels. -/
def order : List (Fin 8) := [0, 4, 1, 5, 2, 6, 3, 7]

/-- The left operand's staging buffer, the right operand's and the result's. -/
abbrev xM : Memref sig .tc .vmem S4096x512 .bf16 := Memref.whole cc0_stg0_0
abbrev wM : Memref sig .tc .vmem S512x8192 .bf16 := Memref.whole cc0_stg1_0
abbrev oM : Memref sig .tc .vmem S512x8192 .f32 := Memref.whole cc0_stg2_0
/-- The array of the devices' maxima. -/
abbrev aM : Memref sig .tc .vmem S8x128 .f32 := Memref.whole cc0_scratch16

/-- Channel `ch`'s pair of ring slots. -/
def buf : Fin 8 → Memref sig .tc .vmem S2x512x1024 .bf16 :=
  ![Memref.whole cc0_scratch0, Memref.whole cc0_scratch1, Memref.whole cc0_scratch2, Memref.whole cc0_scratch3,
    Memref.whole cc0_scratch4, Memref.whole cc0_scratch5, Memref.whole cc0_scratch6, Memref.whole cc0_scratch7]

/-- Channel `ch`'s buffer for the partial product it computes itself. -/
def pbuf : Fin 8 → Memref sig .tc .vmem S512x1024 .bf16 :=
  ![Memref.whole cc0_scratch8, Memref.whole cc0_scratch9, Memref.whole cc0_scratch10, Memref.whole cc0_scratch11,
    Memref.whole cc0_scratch12, Memref.whole cc0_scratch13, Memref.whole cc0_scratch14, Memref.whole cc0_scratch15]

theorem buf_whole : ∀ ch, (buf ch).IsWhole
  | 0 => Memref.isWhole_whole _ | 1 => Memref.isWhole_whole _ | 2 => Memref.isWhole_whole _
  | 3 => Memref.isWhole_whole _ | 4 => Memref.isWhole_whole _ | 5 => Memref.isWhole_whole _
  | 6 => Memref.isWhole_whole _ | 7 => Memref.isWhole_whole _

theorem pbuf_whole : ∀ ch, (pbuf ch).IsWhole
  | 0 => Memref.isWhole_whole _ | 1 => Memref.isWhole_whole _ | 2 => Memref.isWhole_whole _
  | 3 => Memref.isWhole_whole _ | 4 => Memref.isWhole_whole _ | 5 => Memref.isWhole_whole _
  | 6 => Memref.isWhole_whole _ | 7 => Memref.isWhole_whole _

/-- The semaphores of channel `ch`: of its departures, its arrivals (two each, by the hop's parity) and its credit. -/
def sendA : Fin 8 → DmaSems sig S2 :=
  ![cc0_scratch17, cc0_scratch18, cc0_scratch19, cc0_scratch20, cc0_scratch21, cc0_scratch22, cc0_scratch23, cc0_scratch24]
def recvA : Fin 8 → DmaSems sig S2 :=
  ![cc0_scratch25, cc0_scratch26, cc0_scratch27, cc0_scratch28, cc0_scratch29, cc0_scratch30, cc0_scratch31, cc0_scratch32]
def credA : Fin 8 → Sems sig S_ :=
  ![cc0_scratch35, cc0_scratch36, cc0_scratch37, cc0_scratch38, cc0_scratch39, cc0_scratch40, cc0_scratch41, cc0_scratch42]

theorem inb_slot (p : Fin 2) : ∀ a, (![p.val, 0, 0] : Fin 3 → Nat) a + S1x512x1024.size a ≤ S2x512x1024.size a := by
  revert p; decide
theorem inb_s2 (p : Fin 2) : ∀ a, (![p.val] : Fin 1 → Nat) a + S1.size a ≤ S2.size a := by revert p; decide
theorem inb_s8 (p : Fin 8) : ∀ a, (![p.val] : Fin 1 → Nat) a + S1.size a ≤ S8.size a := by revert p; decide
theorem inb_wcol (ch : Fin 8) : ∀ a, (![0, 1024 * ch.val] : Fin 2 → Nat) a + S512x1024.size a ≤ S512x8192.size a := by
  revert ch; decide

/-- Slot `p` of a channel's pair, as a rectangle. -/
abbrev slotR (p : Fin 2) : Rect S2x512x1024 := Rect.unit (s := S2x512x1024) ![p.val, 0, 0] S1x512x1024.size (inb_slot p)
/-- Slot `p` of channel `ch`'s pair, as a matrix. -/
abbrev slot (ch : Fin 8) (p : Fin 2) : Memref sig .tc .vmem S512x1024 .bf16 :=
  ((buf ch).slice (slotR p) (fun _ => rfl)).squeeze S512x1024 squeezes_S1x512x1024_S512x1024
/-- Column block `ch` of the right operand or of the result. -/
abbrev colR (ch : Fin 8) : Rect S512x8192 := Rect.unit (s := S512x8192) ![0, 1024 * ch.val] S512x1024.size (inb_wcol ch)
abbrev allR : Rect S512x1024 := Rect.unit (s := S512x1024) ![0, 0] S512x1024.size inb_S512x1024_S512x1024_0_0

abbrev sendS (ch : Fin 8) (p : Fin 2) : DmaSem sig :=
  (((sendA ch).slice (Rect.unit (s := S2) ![p.val] S1.size (inb_s2 p))).squeeze S_ squeezes_S1_S_).sem
abbrev recvS (ch : Fin 8) (p : Fin 2) : DmaSem sig :=
  (((recvA ch).slice (Rect.unit (s := S2) ![p.val] S1.size (inb_s2 p))).squeeze S_ squeezes_S1_S_).sem
abbrev credS (ch : Fin 8) : Sem sig := (credA ch).sem
abbrev barS : Sem sig := (SemArray.scalar (sig.barrier 0 rfl) : Sems sig S_).sem
abbrev asendS (d : Fin 8) : DmaSem sig :=
  ((cc0_scratch33.slice (Rect.unit (s := S8) ![d.val] S1.size (inb_s8 d))).squeeze S_ squeezes_S1_S_).sem
abbrev arecvS (d : Fin 8) : DmaSem sig :=
  ((cc0_scratch34.slice (Rect.unit (s := S8) ![d.val] S1.size (inb_s8 d))).squeeze S_ squeezes_S1_S_).sem

/-- The parity of a hop. -/
def par (h : Nat) : Fin 2 := ⟨h % 2, Nat.mod_lt _ (by decide)⟩

/-- The neighbours of a device, as the kernel computes them. -/
def prv (d : Dev nD) : Dev nD := ⟨k0_dev1 d, k0_dev1_lt d⟩
def nxt (d : Dev nD) : Dev nD := ⟨k0_dev2 d, k0_dev2_lt d⟩

/-- Channels 0 to 3 send to the next device and channels 4 to 7 to the one before: where channel `ch` sends to, -/
def dstD (ch : Fin 8) (d : Dev nD) : Dev nD :=
  (![nxt d, nxt d, nxt d, nxt d, prv d, prv d, prv d, prv d] : Fin 8 → Dev nD) ch
/-- and where it receives from. -/
def srcD (ch : Fin 8) (d : Dev nD) : Dev nD :=
  (![prv d, prv d, prv d, prv d, nxt d, nxt d, nxt d, nxt d] : Fin 8 → Dev nD) ch

/-- The row block of the left operand that channel `ch` multiplies at hop `h`, by its offsets. -/
def offX (ch : Fin 8) (d : Dev nD) (h : Fin 8) : Fin 2 → Nat :=
  (![k0_off1 d (BitVec.ofNat 32 h.val), k0_off1 d (BitVec.ofNat 32 h.val), k0_off1 d (BitVec.ofNat 32 h.val),
     k0_off1 d (BitVec.ofNat 32 h.val), k0_off2 d (BitVec.ofNat 32 h.val), k0_off2 d (BitVec.ofNat 32 h.val),
     k0_off2 d (BitVec.ofNat 32 h.val), k0_off2 d (BitVec.ofNat 32 h.val)] : Fin 8 → Fin 2 → Nat) ch

theorem offX_inb : ∀ (ch : Fin 8) (d : Dev nD) (h : Fin 8) a, offX ch d h a + S512x512.size a ≤ S4096x512.size a
  | 0, d, h => k0_off1_inb d h | 1, d, h => k0_off1_inb d h | 2, d, h => k0_off1_inb d h | 3, d, h => k0_off1_inb d h
  | 4, d, h => k0_off2_inb d h | 5, d, h => k0_off2_inb d h | 6, d, h => k0_off2_inb d h | 7, d, h => k0_off2_inb d h

abbrev xR (ch : Fin 8) (d : Dev nD) (h : Fin 8) : Rect S4096x512 :=
  Rect.unit (s := S4096x512) (offX ch d h) S512x512.size (offX_inb ch d h)

/-- The seven peers a device sends its maximum to, and its own row and its peers' rows of the array of maxima. -/
def peer (d : Dev nD) : Fin 7 → Dev nD :=
  ![⟨k0_dev107 d, k0_dev107_lt d⟩, ⟨k0_dev108 d, k0_dev108_lt d⟩, ⟨k0_dev109 d, k0_dev109_lt d⟩,
    ⟨k0_dev110 d, k0_dev110_lt d⟩, ⟨k0_dev111 d, k0_dev111_lt d⟩, ⟨k0_dev112 d, k0_dev112_lt d⟩,
    ⟨k0_dev113 d, k0_dev113_lt d⟩]
abbrev ownR (d : Dev nD) : Rect S8x128 := Rect.unit (s := S8x128) (k0_off3 d) S1x128.size (k0_off3_inb d)
abbrev ownM (d : Dev nD) : Memref sig .tc .vmem S1x128 .f32 :=
  aM.slice (Rect.unit (s := S8x128) (k0_off4 d) S1x128.size (k0_off4_inb d)) (fun _ => rfl)
abbrev fromM (d : Dev nD) (k : Fin 7) : Memref sig .tc .vmem S1x128 .f32 :=
  aM.slice (Rect.unit (s := S8x128) (k0_off5 d (BitVec.ofNat 32 (1 + k.val))) S1x128.size (k0_off5_inb d k)) (fun _ => rfl)

/-! ## The pure values -/

/-- The product of a row block with a column block, accumulated at f32 and rounded. -/
def dotV (v : Vec F S512x512 .bf16) (w : Vec F S512x1024 .bf16) : FVec F S512x1024 .bf16 := k0_pay29 v w
/-- The same, as a slot's contents. -/
def dot0V (v : Vec F S512x512 .bf16) (w : Vec F S512x1024 .bf16) : FVec F S1x512x1024 .bf16 := k0_pay1 v w
/-- One hop's sum: the product held in the channel's own buffer plus the one that arrived. -/
def addV (v : Vec F S512x1024 .bf16) (u : Vec F S1x512x1024 .bf16) : FVec F S1x512x1024 .bf16 := k0_pay27 v u
/-- The last sum, at f32. -/
def accV (v : Vec F S512x1024 .bf16) (u : Vec F S1x512x1024 .bf16) : FVec F S512x1024 .f32 := k0_pay134 v u
/-- The maximum of a block's absolute values, against one carried along. -/
def maxV (m : F .f32) (v : Vec F S512x1024 .bf16) (u : Vec F S1x512x1024 .bf16) : F .f32 :=
  Scalar.maximumf m (extractAt ![0, 0, 0] (k0_pay135 v u) inpos_S1x1x1_p0_0_0)
/-- A device's maximum spread over its row. -/
def rowV (m : F .f32) : FVec F S1x128 .f32 := shapeCast S1x128 (broadcast S1x128 m) shapeCasts_S1x128_S1x128
/-- A block of the result quantised against the maximum of all the rows, and put back at its scale. -/
def quantV (a : Vec F S8x128 .f32) (v : Vec F S512x1024 .f32) : FVec F S512x1024 .f32 := k0_pay150 a v

/-! ## The segments -/

theorem slot_packed : ∀ p : Fin 2, (slotR p).PackedRows (EltTy.packing .bf16)
  | 0 => packedbf16_S2x512x1024_S1x512x1024_0_0_0
  | 1 => packedbf16_S2x512x1024_S1x512x1024_1_0_0
theorem slot_whole_words : ∀ p : Fin 2, (slotR p).WholeWords (EltTy.packing .bf16)
  | 0 => wordsbf16_S2x512x1024_S1x512x1024_0_0_0
  | 1 => wordsbf16_S2x512x1024_S1x512x1024_1_0_0
theorem slot_words (ch : Fin 8) (p : Fin 2) : (slot ch p).view.WordExact :=
  ((buf_whole ch).wordExact_slice rfl _ (slot_whole_words p)).reshape _ _

theorem typed_remote {d : Dev nD} {s : Shape} {e : EltTy} {dst : Memref sig .tc .vmem s e} {a b : DmaSem sig} :
    (DmaTarget.remote (Dev.tc d) dst (.dma a) : DmaTarget nD τ sig (Proc.tc : Proc τ) .vmem s e).Typed .vmem (.dma b) :=
  ⟨⟨rfl, Or.inl rfl⟩, trivial⟩

/-- The copy of a hop: this device's slot of the other parity to the slot of the hop's parity downstream. -/
def rdma (d : Dev nD) (ch : Fin 8) (h : Nat) (k : P F) : P F :=
  .op (.enqueueDma (slot ch (par (h + 1))) (.remote (Dev.tc (dstD ch d)) (slot ch (par h)) (.dma (sendS ch (par h))))
    (.dma (recvS ch (par h))) (slot_words ch _) (slot_words ch _) typed_remote) fun _ => k

/-- Waiting for both ends of a hop's copies. -/
def waits (ch : Fin 8) (h : Nat) (k : P F) : P F :=
  .op (.waitDma2 (sendS ch (par h)) (slot ch (par h)) (slot ch (par (h + 1))) (slot_words ch _) (slot_words ch _)) fun _ =>
  .op (.waitDma2 (recvS ch (par h)) (slot ch (par (h + 1))) (slot ch (par h)) (slot_words ch _) (slot_words ch _)) fun _ => k

/-- The first product of a channel, put into its slot 1. -/
def dot0 (d : Dev nD) (ch : Fin 8) (k : P F) : P F :=
  .op (.load xM (xR ch d 0).toLoadRect (View.loadsAt_vmem h_S512x512)) fun v =>
  .op (.load wM (colR ch).toLoadRect (View.loadsAt_vmem h_S512x1024)) fun w =>
  .op (.load (buf ch) (slotR 1).toLoadRect (View.loadsAt_vmem h_S1x512x1024)) fun _ =>
  .op (.store (buf ch) (slotR 1) (dot0V v w) Finset.univ
    (View.stores_vmem h_S1x512x1024 ((buf_whole ch).storeExact_slice rfl _ (slot_packed 1)) (fun _ => rfl))
    (.inl rfl)) fun _ => k

/-- A later product of a channel, put into its own buffer. -/
def dot (d : Dev nD) (ch : Fin 8) (h : Fin 8) (k : P F) : P F :=
  .op (.load xM (xR ch d h).toLoadRect (View.loadsAt_vmem h_S512x512)) fun v =>
  .op (.load wM (colR ch).toLoadRect (View.loadsAt_vmem h_S512x1024)) fun w =>
  .op (.load (pbuf ch) allR.toLoadRect (View.loadsAt_vmem h_S512x1024)) fun _ =>
  .op (.store (pbuf ch) allR (dotV v w) Finset.univ
    (View.stores_vmem h_S512x1024 ((pbuf_whole ch).storeExact_slice rfl _ packedbf16_S512x1024_S512x1024_0_0) (fun _ => rfl))
    (.inl rfl)) fun _ => k

/-- The sum of a hop: the channel's own product added onto what arrived in slot `p`. -/
def addUp (ch : Fin 8) (p : Fin 2) (k : P F) : P F :=
  .op (.load (pbuf ch) allR.toLoadRect (View.loadsAt_vmem h_S512x1024)) fun v =>
  .op (.load (buf ch) (slotR p).toLoadRect (View.loadsAt_vmem h_S1x512x1024)) fun u =>
  .op (.load (buf ch) (slotR p).toLoadRect (View.loadsAt_vmem h_S1x512x1024)) fun _ =>
  .op (.store (buf ch) (slotR p) (addV v u) Finset.univ
    (View.stores_vmem h_S1x512x1024 ((buf_whole ch).storeExact_slice rfl _ (slot_packed p)) (fun _ => rfl))
    (.inl rfl)) fun _ => k

/-- A channel's part of hop `h`: the copies of the hop before are waited for, the slot they freed is granted upstream,
    what arrived is added to, and once downstream has granted its slot the sum is sent on. -/
def hop (d : Dev nD) (h : Nat) (ch : Fin 8) (k : P F) : P F :=
  waits ch (h - 1) <|
  .op (.semSignal (Dev.tc (srcD ch d)) (credS ch) (1#32 : BitVec 32).toInt) fun _ =>
  addUp ch (par (h + 1)) <|
  .op (.semWait (credS ch) (1#32 : BitVec 32).toInt) fun _ =>
  rdma d ch h k

/-- A hop of all the channels, and the products of the next. -/
def hops (d : Dev nD) (h : Fin 8) (h' : Fin 8) (k : P F) : P F :=
  order.foldr (hop d h.val) (order.foldr (fun ch k => dot d ch h' k) k)

/-- The last sums, put into the result, their largest absolute value carried along. -/
def accum (ch : Fin 8) (m : F .f32) (k : F .f32 → P F) : P F :=
  .op (.load (pbuf ch) allR.toLoadRect (View.loadsAt_vmem h_S512x1024)) fun v =>
  .op (.load (buf ch) (slotR 0).toLoadRect (View.loadsAt_vmem h_S1x512x1024)) fun u =>
  .op (.load oM (colR ch).toLoadRect (View.loadsAt_vmem h_S512x1024)) fun _ =>
  .op (.store oM (colR ch) (accV v u) Finset.univ (View.stores_vmem_bits_univ h_S512x1024 rfl) (.inl rfl)) fun _ =>
  k (maxV m v u)

def accums : List (Fin 8) → F .f32 → (F .f32 → P F) → P F
  | [], m, k => k m
  | ch :: l, m, k => accum ch m fun m' => accums l m' k

/-- The device's maximum, written over its row of the array of maxima. -/
def putRow (d : Dev nD) (m : F .f32) (k : P F) : P F :=
  .op (.load aM (ownR d).toLoadRect (View.loadsAt_vmem h_S1x128)) fun _ =>
  .op (.store aM (ownR d) (rowV m) Finset.univ (View.stores_vmem_bits_univ h_S1x128 rfl) (.inl rfl)) fun _ => k

/-- The device's row sent to its `i`-th peer, the peer's row received, and the end of the sending. -/
def rowSend (d : Dev nD) (i : Fin 7) (k : P F) : P F :=
  .op (.enqueueDma (ownM d) (.remote (Dev.tc (peer d i)) (ownM d) (.dma (asendS i.succ))) (.dma (arecvS i.succ))
    (View.wordExact_bits rfl) (View.wordExact_bits rfl) typed_remote) fun _ => k
def rowRecv (d : Dev nD) (i : Fin 7) (k : P F) : P F :=
  .op (.waitDma2 (arecvS i.succ) (fromM d i) (fromM d i) (View.wordExact_bits rfl) (View.wordExact_bits rfl)) fun _ => k
def rowSent (d : Dev nD) (i : Fin 7) (k : P F) : P F :=
  .op (.waitDma2 (asendS i.succ) (ownM d) (ownM d) (View.wordExact_bits rfl) (View.wordExact_bits rfl)) fun _ => k

def peers : List (Fin 7) := [0, 1, 2, 3, 4, 5, 6]
def columns : List (Fin 8) := [0, 1, 2, 3, 4, 5, 6, 7]

/-- A column block of the result, quantised in place. -/
def quant (a : Vec F S8x128 .f32) (ch : Fin 8) (k : P F) : P F :=
  .op (.load oM (colR ch).toLoadRect (View.loadsAt_vmem h_S512x1024)) fun v =>
  .op (.load oM (colR ch).toLoadRect (View.loadsAt_vmem h_S512x1024)) fun _ =>
  .op (.store oM (colR ch) (quantV a v) Finset.univ (View.stores_vmem_bits_univ h_S512x1024 rfl) (.inl rfl)) fun _ => k

/-- The last phase: the maxima exchanged and the result quantised. -/
def finish (d : Dev nD) (m : F .f32) : P F :=
  putRow d m <| peers.foldr (rowSend d) <| peers.foldr (rowRecv d) <| peers.foldr (rowSent d) <|
  .op (.load aM (Rect.unit (s := S8x128) ![0, 0] S8x128.size inb_S8x128_S8x128_0_0).toLoadRect (View.loadsAt_vmem h_S8x128)) fun a =>
  columns.foldr (quant a) (.ret ⟨⟩)

/-- The barrier: a signal to each neighbour, and the wait for theirs. -/
def barrier (d : Dev nD) (k : P F) : P F :=
  .op (.semSignal (Dev.tc (prv d)) barS (1#32 : BitVec 32).toInt) fun _ =>
  .op (.semSignal (Dev.tc (nxt d)) barS (1#32 : BitVec 32).toInt) fun _ =>
  .op (.semWait barS (2#32 : BitVec 32).toInt) fun _ => k

/-- Everything up to the last hop. -/
def ring (d : Dev nD) (k : P F) : P F :=
  barrier d <| order.foldr (fun ch k => dot0 d ch (rdma d ch 0 k)) <| order.foldr (fun ch k => dot d ch 1 k) <|
  hops d 1 2 <| hops d 2 3 <| hops d 3 4 <| hops d 4 5 <| hops d 5 6 <| hops d 6 7 k

/-- The whole body. -/
def body : P F :=
  .op .deviceId fun d => ring d <| order.foldr (fun ch k => waits ch 6 k) <|
  accums order (Scalar.ofBits .f32 0x00000000#32) (finish d)

end Cert.KernelIdeal.Ring8
-- ==== Proof.Protocol.lean ====
/- The protocol of the kernel's semaphores: which cells there are, what each round of a cell is paid and by whom, what its
   payment hands over, and in which order a device pays. Everything is stated once for a channel, a parity and a hop. -/
module

public import proofs.«01_k».proof.Proof.Program
public import Idealize.ShloMosaic.Lib.Pipeline.Launch
public import Idealize.ShloMosaic.Lib.Pipeline.Kit
public import Idealize.ShloMosaic.Lib.Tactic
public import Mathlib.Tactic.DeriveFintype

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's, waits indexed by the round -/

abbrev UB : Type := URounds (GSem nD τ sig) Bool
abbrev UU : Type := UR sig nD τ × UB

/-- The model every statement below speaks about. -/
abbrev MM (F : FTy → Type) : Type := MT nD τ sig ℕ (Elt F) ℕ UU ℕ

local notation "𝕄" => MM F

abbrev EP : Emb (UR sig nD τ) (MM F) := embL
abbrev ER : Emb UB (MM F) := embR

/-! ## The ring of eight devices -/

theorem nxt_val (d : Dev nD) : (nxt d).val = (d.val + 1) % 8 := by revert d; decide +kernel
theorem prv_val (d : Dev nD) : (prv d).val = (d.val + 7) % 8 := by revert d; decide +kernel
theorem prv_nxt (d : Dev nD) : prv (nxt d) = d := by revert d; decide +kernel
theorem nxt_prv (d : Dev nD) : nxt (prv d) = d := by revert d; decide +kernel
theorem peer_val (d : Dev nD) (k : Fin 7) : (peer d k).val = (d.val + 1 + k.val) % 8 := by revert d k; decide +kernel

/-- The device `h + 1` places before `c`, and the one `k` places after it. -/
def back (h : ℕ) (c : Dev nD) : Dev nD := ⟨(c.val + 8 * h + 7 - h) % 8, Nat.mod_lt _ (by decide)⟩
def fwd (k : ℕ) (c : Dev nD) : Dev nD := ⟨(c.val + k) % 8, Nat.mod_lt _ (by decide)⟩

theorem back_zero_nxt (c : Dev nD) : back 0 (nxt c) = c := by revert c; decide +kernel
theorem back_succ_nxt (h : ℕ) (c : Dev nD) : back (h + 1) (nxt c) = back h c := by
  apply Fin.ext
  show ((nxt c).val + 8 * (h + 1) + 7 - (h + 1)) % 8 = (c.val + 8 * h + 7 - h) % 8
  rw [nxt_val]; omega
theorem fwd_back (h : ℕ) (c : Dev nD) : fwd (h + 1) (back h c) = c := by
  apply Fin.ext
  show ((c.val + 8 * h + 7 - h) % 8 + (h + 1)) % 8 = c.val
  have := c.isLt
  have h8 : (nD : ℕ) = 8 := rfl
  omega

def ringE : Dev nD ≃ Dev nD := ⟨nxt, prv, prv_nxt, nxt_prv⟩

/-- The device whose `k`-th peer is `d`. -/
def peerInv (d : Dev nD) (k : Fin 7) : Dev nD := ⟨(d.val + 7 - k.val) % 8, Nat.mod_lt _ (by decide)⟩
def peerE (k : Fin 7) : Dev nD ≃ Dev nD where
  toFun d := peer d k
  invFun d := peerInv d k
  left_inv d := by revert d k; decide +kernel
  right_inv d := by revert d k; decide +kernel

def dstE (ch : Fin 8) : Dev nD ≃ Dev nD where
  toFun := dstD ch
  invFun := srcD ch
  left_inv d := by revert d ch; decide +kernel
  right_inv d := by revert d ch; decide +kernel

theorem src_dst (ch : Fin 8) (d : Dev nD) : srcD ch (dstD ch d) = d := (dstE ch).left_inv d
theorem dst_src (ch : Fin 8) (d : Dev nD) : dstD ch (srcD ch d) = d := (dstE ch).right_inv d

/-! ## The cells -/

/-- The semaphores of a device that the ring uses: the barrier's, a channel's departures and arrivals by parity and its
    credit, and the departure and arrival of a row of maxima by peer. -/
inductive Cx where
  | bar
  | send (ch : Fin 8) (p : Fin 2)
  | recv (ch : Fin 8) (p : Fin 2)
  | cred (ch : Fin 8)
  | asend (k : Fin 7)
  | arecv (k : Fin 7)
deriving DecidableEq, Fintype

abbrev semOf : Cx → SemLoc sig
  | .bar => .reg barS
  | .send ch p => .dma (sendS ch p)
  | .recv ch p => .dma (recvS ch p)
  | .cred ch => .reg (credS ch)
  | .asend k => .dma (asendS k.succ)
  | .arecv k => .dma (arecvS k.succ)

theorem semOf_inj : Function.Injective semOf := by
  have h : ∀ x y, semOf x = semOf y → x = y := by decide +kernel
  exact fun x y => h x y

/-- The cell of semaphore `x` of device `c`. -/
abbrev cell (c : Dev nD) (x : Cx) : GSem nD τ sig := ((c : Thread nD τ), semOf x)

open Classical in
/-- Which of the ring's semaphores a location is. -/
def kind (s : SemLoc sig) : Option Cx := if h : ∃ x, semOf x = s then some h.choose else none

theorem kind_semOf (x : Cx) : kind (semOf x) = some x := by
  have h : ∃ y, semOf y = semOf x := ⟨x, rfl⟩
  unfold kind
  rw [dif_pos h, semOf_inj h.choose_spec]

/-- How many rounds a cell runs: four hops are even and three odd, six credits are granted. -/
def rounds : Cx → ℕ
  | .bar => 1
  | .send _ p => 4 - p.val
  | .recv _ p => 4 - p.val
  | .cred _ => 6
  | .asend _ => 1
  | .arecv _ => 1

/-- The units a slot's copy and a row's copy pay. -/
abbrev NB : ℕ := (slot 0 0).view.dmaCredit
abbrev NA : ℕ := (ownM 0).view.dmaCredit

theorem NB_pos : 0 < NB := View.dmaCredit_pos _ (by decide)
theorem NA_pos : 0 < NA := View.dmaCredit_pos _ (by decide)
theorem slot_credit (ch : Fin 8) (p : Fin 2) : (slot ch p).view.dmaCredit = NB := by
  revert ch p; decide +kernel

def amt : Cx → ℕ
  | .bar => 1
  | .send _ _ => NB
  | .recv _ _ => NB
  | .cred _ => 1
  | .asend _ => NA
  | .arecv _ => NA

theorem amt_pos (x : Cx) : 0 < amt x := by cases x <;> first | exact Nat.one_pos | exact NB_pos | exact NA_pos

/-! ## What the devices compute -/

/-- The contents the devices hold when they start: the left operand's block and the right operand's, by device. -/
abbrev Xs (F : FTy → Type) := Dev nD → (cc0_stg0_0 : Ref sig .tc).ty.Contents (Elt F)
abbrev Ws (F : FTy → Type) := Dev nD → (cc0_stg1_0 : Ref sig .tc).ty.Contents (Elt F)

variable (X : Xs F) (Wt : Ws F)

/-- The row block channel `ch` multiplies at hop `h` and the column block it multiplies it with, -/
def xBlk (c : Dev nD) (ch : Fin 8) (h : ℕ) : Vec F S512x512 .bf16 :=
  xM.view.readAt (Elt F) (xR ch c (Fin.ofNat 8 h)).toLoadRect (X c)
def wBlk (c : Dev nD) (ch : Fin 8) : Vec F S512x1024 .bf16 := wM.view.readAt (Elt F) (colR ch).toLoadRect (Wt c)
/-- their product, -/
def prod (c : Dev nD) (ch : Fin 8) (h : ℕ) : FVec F S512x1024 .bf16 := dotV (xBlk X c ch h) (wBlk Wt c ch)
/-- the partial sum device `c` sends on channel `ch` at hop `h`, -/
def sent (ch : Fin 8) : ℕ → Dev nD → FVec F S1x512x1024 .bf16
  | 0, c => dot0V (xBlk X c ch 0) (wBlk Wt c ch)
  | h + 1, c => addV (prod X Wt c ch (h + 1)) (sent ch h (srcD ch c))
/-- the one that arrives last, and the full sum of its column block, -/
def arrived (c : Dev nD) (ch : Fin 8) : FVec F S1x512x1024 .bf16 := sent X Wt ch 6 (srcD ch c)
def total (c : Dev nD) (ch : Fin 8) : FVec F S512x1024 .f32 := accV (prod X Wt c ch 7) (arrived X Wt c ch)
/-- the largest absolute value of a device's sums, -/
def locMax (c : Dev nD) : F .f32 :=
  order.foldl (fun m ch => maxV m (prod X Wt c ch 7) (arrived X Wt c ch)) (Scalar.ofBits .f32 0x00000000#32)
/-- all the devices' maxima, one to a row, -/
def rowsC : (cc0_scratch16 : Ref sig .tc).ty.Contents (Elt F) := fun i => locMax X Wt (i 0)
/-- The column block an element of the result lies in, and its place there. -/
def chanOf (i : S512x8192.Idx) : Fin 8 :=
  ⟨(i 1).val / 1024, by have h : (i 1).val < 8192 := (i 1).isLt; omega⟩
def within (i : S512x8192.Idx) : S512x1024.Idx :=
  fun | 0 => ⟨(i 0).val, (i 0).isLt⟩ | 1 => ⟨(i 1).val % 1024, Nat.mod_lt _ (Nat.zero_lt_succ 1023)⟩
/-- and a device's block of the result. -/
def outC (c : Dev nD) : (cc0_stg2_0 : Ref sig .tc).ty.Contents (Elt F) := fun i =>
  quantV (rowsC X Wt) (total X Wt c (chanOf i)) (within i)

/-! ## What is handed over -/

def slotPts (c : Dev nD) (ch : Fin 8) (p : Fin 2) (f : Buf (Elt F) ((slot ch p).view.loc (c : Thread nD τ))) : sProp 𝕄 :=
  (slot ch p).view.loc (c : Thread nD τ) ↦[(slot ch p).view.set]{fullShare} f
/-- A slot with any contents, -/
def slotAny (c : Dev nD) (ch : Fin 8) (p : Fin 2) : sProp 𝕄 := iprop(∃ f, slotPts c ch p f)
/-- and one that a load reads as `U`. -/
def slotHas (c : Dev nD) (ch : Fin 8) (p : Fin 2) (U : FVec F S1x512x1024 .bf16) : sProp 𝕄 :=
  iprop(∃ f, ⌜(buf ch).view.readAt (Elt F) (slotR p).toLoadRect f = U⌝ ∗ slotPts c ch p f)

/-- Row `j` of device `c`'s array of maxima. -/
def rowPts (c j : Dev nD) (q : PosShare TreeShare) (f : Buf (Elt F) ((ownM j).view.loc (c : Thread nD τ))) : sProp 𝕄 :=
  (ownM j).view.loc (c : Thread nD τ) ↦[(ownM j).view.set]{q} f
def rowAny (c j : Dev nD) : sProp 𝕄 := iprop(∃ f, rowPts (F := F) c j fullShare f)

/-- The last `n` of device `t`'s rows that are not its own: those its `7 - n + 1`-th to seventh peers fill. -/
def rowsL (t : Dev nD) : ℕ → sProp 𝕄
  | 0 => iprop(emp)
  | n + 1 => iprop(rowAny t (fwd (7 - n) t) ∗ rowsL t n)
/-- Row `c` of the `n` devices before `c`. -/
def keptL (c : Dev nD) : ℕ → sProp 𝕄
  | 0 => iprop(emp)
  | n + 1 => iprop(rowAny (back n c) c ∗ keptL c n)

instance slotPts_storable (c : Dev nD) (ch p f) : BI.Storable (upEmb : UEmb _ 𝕄) (slotPts (F := F) c ch p f) := by
  unfold slotPts; infer_instance
instance slotAny_storable (c : Dev nD) (ch p) : BI.Storable (upEmb : UEmb _ 𝕄) (slotAny (F := F) c ch p) := by
  unfold slotAny; infer_instance
instance slotHas_storable (c : Dev nD) (ch p U) : BI.Storable (upEmb : UEmb _ 𝕄) (slotHas (F := F) c ch p U) := by
  unfold slotHas; infer_instance
instance rowPts_storable (c j : Dev nD) (q f) : BI.Storable (upEmb : UEmb _ 𝕄) (rowPts (F := F) c j q f) := by
  unfold rowPts; infer_instance
instance rowAny_storable (c j : Dev nD) : BI.Storable (upEmb : UEmb _ 𝕄) (rowAny (F := F) c j) := by
  unfold rowAny; infer_instance
instance rowsL_storable (t : Dev nD) (n : ℕ) : BI.Storable (upEmb : UEmb _ 𝕄) (rowsL (F := F) t n) := by
  induction n with
  | zero => unfold rowsL; infer_instance
  | succ n ih => unfold rowsL; infer_instance

/-! ## The schedule -/

/-- What the slots granted by the barrier are: those of the channels that flow onward, and those of the others. -/
def barPay (c : Dev nD) (d : Bool) : sProp 𝕄 :=
  if d then
    iprop(slotAny (dstD 0 c) 0 0 ∗ slotAny (dstD 1 c) 1 0 ∗ slotAny (dstD 2 c) 2 0 ∗ slotAny (dstD 3 c) 3 0)
  else
    iprop(slotAny (dstD 4 c) 4 0 ∗ slotAny (dstD 5 c) 5 0 ∗ slotAny (dstD 6 c) 6 0 ∗ slotAny (dstD 7 c) 7 0)

/-- What arrives with hop `h` on channel `ch` at device `c`: the slot filled with the partial sum, that the sender has
    used the credits of the hops so far, and on channel 0 the rows of maxima still to be handed on. -/
def recvPay (c : Dev nD) (ch : Fin 8) (h : ℕ) : sProp 𝕄 :=
  iprop(slotHas c ch (par h) (sent X Wt ch h (srcD ch c)) ∗ reached ER (cell (srcD ch c) (.cred ch)) h
    ∗ (if ch = 0 then rowsL (back h c) (7 - h) else iprop(emp)))

/-- The credit of hop `h + 1`: the slot downstream, and that its arrivals have come so far. -/
def credPay (c : Dev nD) (ch : Fin 8) (r : ℕ) : sProp 𝕄 :=
  iprop(slotAny (dstD ch c) ch (par (r + 1))
    ∗ reached ER (cell (dstD ch c) (.recv ch (par (r + 1)))) ((r + 1) / 2))

/-- The payment of duty `d` in round `r` of cell `x` of device `c`. -/
def pay (c : Dev nD) (x : Cx) (r : ℕ) (d : Bool) : sProp 𝕄 :=
  match x with
  | .bar => barPay c d
  | .send ch p => slotAny c ch (par (p.val + 1))
  | .recv ch p => recvPay X Wt c ch (2 * r + p.val)
  | .cred ch => credPay c ch r
  | .asend k => rowPts c c (Transfers.shareTok fullShare 7 k) (rowsC X Wt)
  | .arecv k => rowPts c (peerInv c k) fullShare (rowsC X Wt)

instance barPay_storable (c : Dev nD) (d) : BI.Storable (upEmb : UEmb _ 𝕄) (barPay (F := F) c d) := by
  unfold barPay; split <;> infer_instance
instance recvPay_storable (c : Dev nD) (ch h) : BI.Storable (upEmb : UEmb _ 𝕄) (recvPay X Wt c ch h) := by
  unfold recvPay; split <;> infer_instance
instance credPay_storable (c : Dev nD) (ch r) : BI.Storable (upEmb : UEmb _ 𝕄) (credPay (F := F) c ch r) := by
  unfold credPay; infer_instance
instance pay_storable (c : Dev nD) : (x : Cx) → (r : ℕ) → (d : Bool) → BI.Storable (upEmb : UEmb _ 𝕄) (pay X Wt c x r d)
  | .bar, _, d => barPay_storable c d
  | .send ch p, _, _ => slotAny_storable c ch _
  | .recv ch p, r, _ => recvPay_storable X Wt c ch _
  | .cred ch, r, _ => credPay_storable c ch r
  | .asend k, _, _ => rowPts_storable c c _ _
  | .arecv k, _, _ => rowPts_storable c _ _ _

def dutiesX (x : Cx) (r : ℕ) : Finset Bool :=
  if r < rounds x then (if x = .bar then Finset.univ else {false}) else ∅

/-- The rounds of the ring's cells. -/
def Rd : Rounds.Schedule (GSem nD τ sig) Bool 𝕄 where
  duties g r := if g.1.2 = .tc then (match kind g.2 with | some x => dutiesX x r | none => ∅) else ∅
  amount g _ _ := match kind g.2 with | some x => amt x | none => 1
  payload g r d := match kind g.2 with | some x => pay X Wt g.1.1 x r d | none => iprop(emp)
  amount_pos g r d _ := by
    split
    · exact amt_pos _
    · exact Nat.one_pos

instance payload_storable (g : GSem nD τ sig) (r d) : BI.Storable (upEmb : UEmb _ 𝕄) ((Rd X Wt).payload g r d) := by
  show BI.Storable (upEmb : UEmb _ 𝕄) (match kind g.2 with | some x => pay X Wt g.1.1 x r d | none => iprop(emp))
  split
  · exact pay_storable X Wt _ _ _ _
  · infer_instance

theorem duties_cell (c : Dev nD) (x : Cx) (r : ℕ) : (Rd X Wt).duties (cell c x) r = dutiesX x r := by
  unfold Rd
  dsimp only
  rw [kind_semOf]
  exact if_pos rfl
theorem amount_cell (c : Dev nD) (x : Cx) (r d) : (Rd X Wt).amount (cell c x) r d = amt x := by
  unfold Rd
  dsimp only
  rw [kind_semOf]
theorem payload_cell (c : Dev nD) (x : Cx) (r d) : (Rd X Wt).payload (cell c x) r d = pay X Wt c x r d := by
  unfold Rd
  dsimp only
  rw [kind_semOf]

theorem mem_duties (c : Dev nD) {x : Cx} {r : ℕ} (hr : r < rounds x) : false ∈ (Rd X Wt).duties (cell c x) r := by
  rw [duties_cell]
  unfold dutiesX
  rw [if_pos hr]
  split
  · exact Finset.mem_univ _
  · exact Finset.mem_singleton_self _
theorem mem_duties_bar (c : Dev nD) (d : Bool) : d ∈ (Rd X Wt).duties (cell c .bar) 0 := by
  rw [duties_cell]; exact Finset.mem_univ _

theorem expect_cell (c : Dev nD) {x : Cx} {r : ℕ} (hr : r < rounds x) (hx : x ≠ .bar) :
    (Rd X Wt).expect (cell c x) r = amt x := by
  unfold Schedule.expect Schedule.amountOf
  rw [duties_cell, dutiesX, if_pos hr, if_neg hx, Finset.sum_singleton, amount_cell]
theorem expect_bar (c : Dev nD) : (Rd X Wt).expect (cell c .bar) 0 = 2 := by
  unfold Schedule.expect Schedule.amountOf
  rw [duties_cell, dutiesX, if_pos (by decide), if_pos rfl, Fintype.sum_bool, amount_cell, amount_cell]
  rfl

theorem rest_cell (c : Dev nD) {x : Cx} {r : ℕ} (hr : r < rounds x) (hx : x ≠ .bar) :
    (bigSep ((Rd X Wt).duties (cell c x) r \ ∅) (fun d => (Rd X Wt).payload (cell c x) r d) : sProp 𝕄)
      = pay X Wt c x r false := by
  rw [Finset.sdiff_empty, duties_cell, dutiesX, if_pos hr, if_neg hx, bigSep_singleton, payload_cell]
theorem rest_bar (c : Dev nD) :
    (bigSep ((Rd X Wt).duties (cell c .bar) 0 \ ∅) (fun d => (Rd X Wt).payload (cell c .bar) 0 d) : sProp 𝕄)
      = iprop(barPay c true ∗ barPay c false) := by
  rw [Finset.sdiff_empty, duties_cell, dutiesX, if_pos (by decide), if_pos rfl,
    bigSep_univ_eq_bigSepL [true, false] (by decide) (by decide), bigSepL_cons_cons, bigSepL_singleton, payload_cell, payload_cell]
  rfl

theorem duties_later (c : Dev nD) (x : Cx) : ∀ r, rounds x ≤ r → (Rd X Wt).duties (cell c x) r = ∅ := fun r hr => by
  rw [duties_cell, dutiesX, if_neg (Nat.not_lt.mpr hr)]

/-! ## The levels -/

/-- A channel's place in the order of service. -/
def pos : Fin 8 → ℕ := ![0, 2, 4, 6, 1, 3, 5, 7]

/-- The time of a cell's round: what is waited for at a time is paid by devices that owe nothing earlier. -/
def levX : Cx → ℕ → ℕ
  | .bar, _ => 1
  | .send _ _, _ => 0
  | .recv ch p, r => 101 + 20 * (2 * r + p.val) + 2 * pos ch
  | .cred ch, r => 100 + 20 * (r + 1) + 2 * pos ch
  | .asend _, _ => 0
  | .arecv _, _ => 1000

def Lv (g : GSem nD τ sig) : Finset ℕ := if g.1.2 = .tc then Finset.range 8 else ∅
def lev (g : GSem nD τ sig) (r : ℕ) : ℕ := match kind g.2 with | some x => levX x r | none => 0

theorem lev_cell (c : Dev nD) (x : Cx) (r : ℕ) : lev (cell c x) r = levX x r := by
  unfold lev; dsimp only; rw [kind_semOf]
theorem Lv_tc (c : Dev nD) (s : SemLoc sig) : Lv ((c : Thread nD τ), s) = Finset.range 8 := if_pos rfl

/-! ## What a device owes, in the order in which it pays -/

/-- A payment: the kind of the cell, its round and its duty. -/
structure Item where
  x : Cx
  r : ℕ
  d : Bool := false
deriving DecidableEq

/-- Whom a device pays. -/
def Item.tgt (i : Item) : Dev nD ≃ Dev nD :=
  match i.x with
  | .bar => if i.d then ringE.symm else ringE
  | .send _ _ => Equiv.refl _
  | .recv ch _ => dstE ch
  | .cred ch => (dstE ch).symm
  | .asend _ => Equiv.refl _
  | .arecv k => peerE k

def Item.tally (i : Item) (c : Dev nD) : CellTallies nD τ sig ℕ := tallyAt (cell (i.tgt c) i.x) i.r (amt i.x)

def owed (c : Dev nD) : List Item → CellTallies nD τ sig ℕ
  | [] => 0
  | i :: l => owed c l + i.tally c

def recvI (ch : Fin 8) (h : ℕ) : Item := ⟨.recv ch (par h), h / 2, false⟩
def credI (ch : Fin 8) (h : ℕ) : Item := ⟨.cred ch, h - 1, false⟩
def hopI (h : ℕ) (l : List (Fin 8)) : List Item := l.flatMap fun ch => [credI ch h, recvI ch h]
def arecvI (k : Fin 7) : Item := ⟨.arecv k, 0, false⟩

def tailI : ℕ → List Item
  | 0 => peers.map arecvI
  | n + 1 => hopI (6 - n) order ++ tailI n
/-- The payments after the barrier, and all of them. -/
def ringI : List Item := order.map (fun ch => recvI ch 0) ++ tailI 6
def allI : List Item := ⟨.bar, 0, true⟩ :: ⟨.bar, 0, false⟩ :: ringI

theorem owed_pos {c : Dev nD} {l : List Item} {g : GSem nD τ sig} {r : ℕ} (h : 0 < owed c l g r) :
    ∃ i ∈ l, g = cell (i.tgt c) i.x ∧ r = i.r := by
  induction l with
  | nil => exact absurd h (lt_irrefl _)
  | cons i l ih =>
    rcases Pipeline.add_pos_cases h with h | h
    · obtain ⟨j, hj, e⟩ := ih h
      exact ⟨j, List.mem_cons_of_mem _ hj, e⟩
    · obtain ⟨e₁, e₂⟩ := Pipeline.tallyAt_pos h
      exact ⟨i, List.mem_cons_self, e₁, e₂⟩

/-- A device may wait for what comes before everything it owes. -/
theorem mayWait (c : Dev nD) {s : SemLoc sig} {r n : ℕ} (hr : r < 8) (hn : lev ((c : Thread nD τ), s) r ≤ n) {l : List Item}
    (hl : ∀ i ∈ l, i.r < 8 ∧ n < levX i.x i.r) :
    levAts (Ix := ℕ) Lv lev ⊢ (MayWait (c : Thread nD τ) s r (owed c l) : sProp 𝕄) := by
  refine Pipeline.mayWait_of_levAts (by rw [Lv_tc]; exact Finset.mem_range.mpr hr) fun g r' h => ?_
  obtain ⟨i, hi, rfl, rfl⟩ := owed_pos h
  refine ⟨by rw [Lv_tc]; exact Finset.mem_range.mpr (hl i hi).1, ?_⟩
  rw [lev_cell]
  exact hn.trans_lt (hl i hi).2

end Cert.KernelIdeal.Ring8
-- ==== Proof.Moves.lean ====
/- The single moves of the protocol: a signal, a wait and the end of a cell, each at any cell of the ring; and the list
   loops of the body, each by one step. -/
module

public import proofs.«01_k».proof.Proof.Protocol
public import Idealize.ShloMosaic.Lib.Pipeline.BigSepL

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (X : Xs F) (Wt : Ws F)

abbrev 𝒱₀ : Variants := Variants.none

/-- The weakest precondition of a program of device `c`. -/
abbrev WP {α : Type} (c : Dev nD) (k : Prog (TpuEff nD τ sig (Elt F) Λ₀ .tc) α) (Q : α → sProp 𝕄) : sProp 𝕄 :=
  wp frame (wpE (defs₀ (F := F)) 𝒱₀ (c : Thread nD τ) none) Set.univ k Q

/-! ## What every device knows and what one device holds -/

/-- The ring's cells are shared, each at round 0 at least, and the levels are as chosen. -/
def recs (K : Dev nD × Cx → ℕ) : sProp 𝕄 :=
  iprop((bigSep Finset.univ fun ck : Dev nD × Cx => cellInv ER (Rd X Wt) (K ck) (cell ck.1 ck.2))
    ∗ (bigSep Finset.univ fun ck : Dev nD × Cx => reached ER (cell ck.1 ck.2) 0)
    ∗ levAts Lv lev)

instance recs_persistent (K : Dev nD × Cx → ℕ) : BI.Persistent (recs X Wt K) := by unfold recs; infer_instance

variable (K : Dev nD × Cx → ℕ)

theorem inv_at (ck : Dev nD × Cx) :
    (bigSep Finset.univ fun ck : Dev nD × Cx => (cellInv ER (Rd X Wt) (K ck) (cell ck.1 ck.2) : sProp 𝕄))
      ⊢ cellInv ER (Rd X Wt) (K ck) (cell ck.1 ck.2) :=
  bigSep_elim (Finset.mem_univ ck)
theorem reached_at (ck : Dev nD × Cx) :
    (bigSep Finset.univ fun ck : Dev nD × Cx => (reached ER (cell ck.1 ck.2) 0 : sProp 𝕄)) ⊢ reached ER (cell ck.1 ck.2) 0 :=
  bigSep_elim (Finset.mem_univ ck)
theorem recs_inv (c : Dev nD) (x : Cx) : recs X Wt K ⊢ cellInv ER (Rd X Wt) (K (c, x)) (cell c x) := by
  unfold recs
  iintro ⟨#H, -, -⟩
  iapply (inv_at X Wt K (c, x))
  iexact H
theorem recs_reached (c : Dev nD) (x : Cx) : recs X Wt K ⊢ (reached ER (cell c x) 0 : sProp 𝕄) := by
  unfold recs
  iintro ⟨-, #H, -⟩
  iapply (reached_at (F := F) (c, x))
  iexact H
theorem recs_lev : recs X Wt K ⊢ (levAts (Ix := ℕ) Lv lev : sProp 𝕄) := by
  unfold recs
  iintro ⟨-, -, #H⟩
  iexact H

/-- Device `c` owes the payments of `l`. -/
def Ow (c : Dev nD) (l : List Item) : sProp 𝕄 := iprop(∃ W, owes (c : Thread nD τ) (owed c l) W)
/-- The right to make a payment, the right to wait for a round, and where the device stands in a cell. -/
def dTok (c : Dev nD) (i : Item) : sProp 𝕄 := dutyTok ER (cell (i.tgt c) i.x) i.r i.d
def crd (c : Dev nD) (x : Cx) (r : ℕ) : sProp 𝕄 := cred (tallyAt (cell c x) r (amt x))
def at_ (c : Dev nD) (x : Cx) (r : ℕ) : sProp 𝕄 := atPos ER (cell c x) r ∅ 0
def rch (c : Dev nD) (x : Cx) (r : ℕ) : sProp 𝕄 := reached ER (cell c x) r

instance rch_persistent (c : Dev nD) (x r) : BI.Persistent (rch (F := F) c x r) := by unfold rch; infer_instance

/-! ## The moves -/

/-- A wait for a round of a cell that one payment fills. -/
theorem wait_cell (c : Dev nD) {x : Cx} {r n : ℕ} {α : Type} {w : TpuEff nD τ sig (Elt F) Λ₀ .tc PUnit} {Q : α → sProp 𝕄}
    {k : PUnit → Prog (TpuEff nD τ sig (Elt F) Λ₀ .tc) α} {l : List Item}
    (hw : ∀ K' : PUnit → sProp 𝕄, wpE (defs₀ (F := F)) 𝒱₀ (c : Thread nD τ) none Set.univ w K'
      = waitSpec (c : Thread nD τ) Set.univ (semOf x) (amt x) K')
    (hr : r < rounds x) (hx : x ≠ .bar) (hn : levX x r ≤ n) (hl : ∀ i ∈ l, i.r < 8 ∧ n < levX i.x i.r) :
    iprop(recs X Wt K ∗ crd c x r ∗ Ow c l ∗ at_ c x r)
      ⊢ iprop(((Ow c l ∗ at_ c x (r + 1) ∗ rch c x (r + 1) ∗ pay X Wt c x r false) -∗ WP c (k ⟨⟩) Q)
        -∗ WP c (.op w k) Q) := by
  have hr8 : r < 8 := by
    refine hr.trans_le ?_
    cases x <;> simp only [rounds] <;> omega
  iintro ⟨#HR, Hc, HO, Ha⟩ Hk
  unfold Ow crd at_
  icases HO with ⟨%W, HO⟩
  iapply (Rounds.wp_wait_rest_token 𝒱₀ ER (Rd X Wt) (c : Thread nD τ) none (κ := K (c, x)) (w := w) (sm := semOf x) (k' := amt x)
      hw (Set.mem_univ _) r (O := owed c l) (W := W) (R := r) (m := 0) (T := ∅)
      (by rw [Nat.zero_add]; exact (expect_cell X Wt c hr hx).symm)) $$ [Hc HO Ha]
  · isplitr; · iapply (recs_inv X Wt K c x); iexact HR
    isplitl [Hc]; · iexact Hc
    isplitl [HO]; · iexact HO
    isplitr
    · iapply (mayWait c hr8 (by rw [lev_cell]; exact hn) hl)
      iapply (recs_lev X Wt K); iexact HR
    iexact Ha
  iintro ⟨HO, Ha, Hr, Hp⟩
  iapply Hk
  ihave Hp := (Entails.of_eq (rest_cell X Wt c hr hx)) $$ Hp
  isplitl [HO]; · iexists _; iexact HO
  isplitl [Ha]; · iexact Ha
  isplitl [Hr]; · unfold rch; iexact Hr
  iexact Hp

/-- The end of a cell: its counter is back at zero. -/
theorem close_cell (c : Dev nD) (x : Cx) :
    iprop(recs X Wt K ∗ at_ c x (rounds x)) ⊢ iprop(|={Set.univ}=> semVal (cell c x) 0) := by
  iintro ⟨#HR, Ha⟩
  unfold at_
  iapply (Rounds.cell_close ER (Rd X Wt) (Set.mem_univ (K (c, x))) (fun h => h) (R := rounds x) (duties_later X Wt c x))
  isplitr; · iapply (recs_inv X Wt K c x); iexact HR
  iexact Ha

/-- A signal on a cell of the ring. -/
theorem signal_cell (c : Dev nD) (i : Item) {sem : Sem sig} {α : Type} {Q : α → sProp 𝕄}
    {k : PUnit → Prog (TpuEff nD τ sig (Elt F) Λ₀ .tc) α} {l : List Item} (hs : semOf i.x = .reg sem) (ha : amt i.x = 1)
    (hd : i.d ∈ (Rd X Wt).duties (cell (i.tgt c) i.x) i.r) :
    iprop(recs X Wt K ∗ Ow c (i :: l) ∗ dTok c i ∗ pay X Wt (i.tgt c) i.x i.r i.d ∗ rch (i.tgt c) i.x i.r)
      ⊢ iprop((Ow c l -∗ WP c (k ⟨⟩) Q)
        -∗ WP c (.op (.semSignal (Dev.tc (i.tgt c)) sem (1#32 : BitVec 32).toInt) k) Q) := by
  iintro ⟨#HR, HO, Ht, Hp, Hr⟩ Hk
  unfold Ow dTok rch
  icases HO with ⟨%W, HO⟩
  have hI := recs_inv X Wt K (i.tgt c) i.x
  have hpay := payload_cell X Wt (i.tgt c) i.x i.r i.d
  have ham := (amount_cell X Wt (i.tgt c) i.x i.r i.d).trans ha
  have htl : owed c (i :: l) = owed c l + tallyAt (cell (i.tgt c) i.x) i.r 1 := by
    show owed c l + i.tally c = _
    rw [Item.tally, ha]
  unfold cell at hI hpay ham htl hd
  unfold cell
  rw [hs] at hI hpay ham htl hd
  rw [hs]
  iapply (Rounds.wp_signal 𝒱₀ ER (Rd X Wt) (c : Thread nD τ) none (dst := ((i.tgt c : Dev nD) : Thread nD τ)) (κ := K (i.tgt c, i.x))
      (sem := sem) (r := i.r) (d := i.d) (k' := 1) hd ham i.r (owed c l) htl) $$ [HO Ht Hp Hr]
  · isplitr; · iapply hI; iexact HR
    isplitl [HO]; · iexact HO
    isplitl [Ht]; · iexact Ht
    isplitl [Hp]; · iapply (Entails.of_eq hpay.symm); iexact Hp
    iexact Hr
  iintro HO
  iapply Hk
  iexists W; iexact HO

/-! ## A loop over a list of channels or peers -/

/-- A loop whose every step takes the shared state at the rest of the list and the step's own resources. -/
theorem foldr_wp {I : Type} (R : I → I → Prop) (c : Dev nD) (f : I → P F → P F) (S : List I → sProp 𝕄) (A B : I → sProp 𝕄)
    (Q : PUnit → sProp 𝕄)
    (hstep : ∀ i l, (i :: l).Pairwise R → ∀ k : P F,
      iprop(S (i :: l) ∗ A i) ⊢ iprop(((S l ∗ B i) -∗ WP c k Q) -∗ WP c (f i k) Q)) :
    ∀ (l : List I), l.Pairwise R → ∀ k : P F,
      iprop(S l ∗ bigSepL l A) ⊢ iprop(((S [] ∗ bigSepL l B) -∗ WP c k Q) -∗ WP c (l.foldr f k) Q)
  | [], _, k => by
    show iprop(S [] ∗ bigSepL [] A) ⊢ iprop(((S [] ∗ bigSepL [] B) -∗ WP c k Q) -∗ WP c k Q)
    iintro ⟨HS, HA⟩ Hk
    iapply Hk
    isplitl [HS]; · iexact HS
    iexact HA
  | i :: l, hl, k => by
    have ih := foldr_wp R c f S A B Q hstep l (List.Pairwise.of_cons hl) k
    show iprop(S (i :: l) ∗ bigSepL (i :: l) A) ⊢ iprop(((S [] ∗ bigSepL (i :: l) B) -∗ WP c k Q) -∗ WP c (f i (l.foldr f k)) Q)
    rw [bigSepL_cons', bigSepL_cons']
    iintro ⟨HS, HA, HAl⟩ Hk
    iapply (hstep i l hl (l.foldr f k)) $$ [HS HA]
    · isplitl [HS] <;> iassumption
    iintro ⟨HS, HB⟩
    iapply ih $$ [HS HAl]
    · isplitl [HS] <;> iassumption
    iintro ⟨HS, HBl⟩
    iapply Hk
    isplitl [HS]; · iexact HS
    isplitl [HB] <;> iassumption

end Cert.KernelIdeal.Ring8
-- ==== Proof.Contents.lean ====
/- How a channel's slots, its own buffer and the rows of maxima are read after a store, a copy or a write. -/
module

public import proofs.«01_k».proof.Proof.Moves

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Xs F) (Wt : Ws F)

theorem slot_set (ch : Fin 8) (p : Fin 2) : (slot ch p).view.set = ((buf ch).access (slotR p)).set :=
  View.set_reshape (v := (buf ch).view.slice (slotR p)) _

theorem slot_stores (ch : Fin 8) (p : Fin 2) :
    ((buf ch).access (slotR p)).setOn Finset.univ ⊆ ((buf ch).access (slotR p)).set := Finset.Subset.refl _

/-- Reading a slot as a load does is reading it as a copy does, at the same place. -/
theorem readAt_slot (ch : Fin 8) (p : Fin 2) (f : (buf ch).view.ty.Contents (Elt F)) :
    (buf ch).view.readAt (Elt F) (slotR p).toLoadRect f
      = fun j => (slot ch p).view.read (Elt F) f ((Shape.reshapeEquiv squeezes_S1x512x1024_S512x1024.numel_eq).symm j) := by
  funext j
  have h : (slot ch p).view.emb ((Shape.reshapeEquiv squeezes_S1x512x1024_S512x1024.numel_eq).symm j)
      = (buf ch).view.emb ((slotR p).emb j) := by
    show ((((buf ch).view.slice (slotR p)).reshape S512x1024 _).emb _) = _
    rw [View.emb_reshape]
    simp only [Function.Embedding.trans_apply, Equiv.coe_toEmbedding, Equiv.apply_symm_apply]
  show (buf ch).view.read (Elt F) f ((slotR p).emb j) = _
  rw [View.read_apply, View.read_apply, h]

/-- A copied slot reads as its source did. -/
theorem readAt_landed (ch : Fin 8) (p q : Fin 2) (fd fs : (buf ch).view.ty.Contents (Elt F)) :
    (buf ch).view.readAt (Elt F) (slotR q).toLoadRect
        ((slot ch q).view.write (Elt F) fd ((slot ch p).view.read (Elt F) fs) Finset.univ)
      = (buf ch).view.readAt (Elt F) (slotR p).toLoadRect fs := by
  rw [readAt_slot, readAt_slot, View.read_write_univ]

/-- A stored slot reads as what was stored. -/
theorem readAt_stored (ch : Fin 8) (p : Fin 2) (f : (buf ch).view.ty.Contents (Elt F)) (w : FVec F S1x512x1024 .bf16) :
    (buf ch).view.readAt (Elt F) (slotR p).toLoadRect (((buf ch).access (slotR p)).write (Elt F) f w Finset.univ) = w :=
  View.read_write_univ (v := (buf ch).access (slotR p)) (Val := Elt F) f w

theorem hz2 : (![0, 0] : Fin 2 → Nat) = fun _ => 0 := funext fun a => by fin_cases a <;> rfl

theorem pbuf_set : ∀ ch, ((pbuf ch).access allR).set ⊆ (pbuf ch).view.set := fun ch => View.set_slice_subset _ _

theorem readAt_pbuf (ch : Fin 8) (f : (pbuf ch).view.ty.Contents (Elt F)) (w : FVec F S512x1024 .bf16) :
    (pbuf ch).view.readAt (Elt F) allR.toLoadRect (((pbuf ch).access allR).write (Elt F) f w Finset.univ) = w :=
  View.read_write_univ (v := (pbuf ch).access allR) (Val := Elt F) f w

/-! ## One channel's own buffer -/

def pAny (c : Dev nD) (ch : Fin 8) : sProp 𝕄 :=
  iprop(∃ f, (pbuf ch).view.loc (c : Thread nD τ) ↦[(pbuf ch).view.set]{fullShare} f)
def pHas (c : Dev nD) (ch : Fin 8) (V : FVec F S512x1024 .bf16) : sProp 𝕄 :=
  iprop(∃ f, ⌜(pbuf ch).view.readAt (Elt F) allR.toLoadRect f = V⌝
    ∗ (pbuf ch).view.loc (c : Thread nD τ) ↦[(pbuf ch).view.set]{fullShare} f)

/-- The operands' blocks, held whole. -/
def opers (c : Dev nD) : sProp 𝕄 :=
  iprop((xM.view.loc (c : Thread nD τ) ↦[xM.view.set]{fullShare} X c)
    ∗ (wM.view.loc (c : Thread nD τ) ↦[wM.view.set]{fullShare} Wt c))

theorem pHas_any (c : Dev nD) (ch : Fin 8) (V : FVec F S512x1024 .bf16) : pHas c ch V ⊢ (pAny c ch : sProp 𝕄) := by
  unfold pHas pAny
  iintro ⟨%f, -, H⟩
  iexists f; iexact H
theorem slotHas_any (c : Dev nD) (ch : Fin 8) (p : Fin 2) (U : FVec F S1x512x1024 .bf16) :
    slotHas c ch p U ⊢ (slotAny c ch p : sProp 𝕄) := by
  unfold slotHas slotAny
  iintro ⟨%f, -, H⟩
  iexists f; iexact H

/-! ## The products -/

/-- A product into the channel's own buffer. -/
theorem dot_wp (c : Dev nD) (ch h : Fin 8) (k : P F) (Q : PUnit → sProp 𝕄) :
    iprop(opers X Wt c ∗ pAny c ch)
      ⊢ iprop(((opers X Wt c ∗ pHas c ch (prod X Wt c ch h.val)) -∗ WP c k Q) -∗ WP c (dot c ch h k) Q) := by
  unfold opers pAny pHas dot
  iintro ⟨⟨Hx, Hw⟩, %f, Hp⟩ Hk
  iapply (wp_load_rect 𝒱₀ (c : Thread nD τ) none Set.univ (m := xM) (r := xR ch c h) (View.set_slice_subset _ _)) $$ Hx; iintro Hx
  iapply (wp_load_rect 𝒱₀ (c : Thread nD τ) none Set.univ (m := wM) (r := colR ch) (View.set_slice_subset _ _)) $$ Hw; iintro Hw
  iapply (wp_load_rect 𝒱₀ (c : Thread nD τ) none Set.univ (m := pbuf ch) (r := allR) (View.set_slice_subset _ _)) $$ Hp; iintro Hp
  iapply (wp_store 𝒱₀ (c : Thread nD τ) none Set.univ (m := pbuf ch) (r := allR) (Mk := Finset.univ) (View.set_slice_subset _ _)) $$ Hp; iintro Hp
  iapply Hk
  isplitl [Hx Hw]
  · isplitl [Hx] <;> iassumption
  iexists _
  isplitr
  rotate_left
  · iexact Hp
  ipureintro
  rw [readAt_pbuf]
  unfold prod xBlk wBlk
  rw [show Fin.ofNat 8 h.val = h from Fin.ofNat_val_eq_self h]
  rfl

/-- The first product, into slot 1. -/
theorem dot0_wp (c : Dev nD) (ch : Fin 8) (k : P F) (Q : PUnit → sProp 𝕄) :
    iprop(opers X Wt c ∗ slotAny c ch 1)
      ⊢ iprop(((opers X Wt c ∗ slotHas c ch 1 (sent X Wt ch 0 c)) -∗ WP c k Q) -∗ WP c (dot0 c ch k) Q) := by
  unfold opers slotAny slotHas slotPts dot0
  rw [slot_set]
  iintro ⟨⟨Hx, Hw⟩, %f, Hp⟩ Hk
  iapply (wp_load_rect 𝒱₀ (c : Thread nD τ) none Set.univ (m := xM) (r := xR ch c 0) (View.set_slice_subset _ _)) $$ Hx; iintro Hx
  iapply (wp_load_rect 𝒱₀ (c : Thread nD τ) none Set.univ (m := wM) (r := colR ch) (View.set_slice_subset _ _)) $$ Hw; iintro Hw
  iapply (wp_load_rect 𝒱₀ (c : Thread nD τ) none Set.univ (m := buf ch) (r := slotR 1) (Finset.Subset.refl _)) $$ Hp; iintro Hp
  iapply (wp_store 𝒱₀ (c : Thread nD τ) none Set.univ (m := buf ch) (r := slotR 1) (Mk := Finset.univ) (slot_stores ch 1)) $$ Hp; iintro Hp
  iapply Hk
  isplitl [Hx Hw]
  · isplitl [Hx] <;> iassumption
  iexists _
  isplitr
  rotate_left
  · iexact Hp
  ipureintro
  exact readAt_stored ch 1 _ _

/-- The sum of a hop, in the slot that arrived. -/
theorem addUp_wp (c : Dev nD) (ch : Fin 8) (p : Fin 2) (V : FVec F S512x1024 .bf16) (U : FVec F S1x512x1024 .bf16) (k : P F)
    (Q : PUnit → sProp 𝕄) :
    iprop(pHas c ch V ∗ slotHas c ch p U)
      ⊢ iprop(((pHas c ch V ∗ slotHas c ch p (addV V U)) -∗ WP c k Q) -∗ WP c (addUp ch p k) Q) := by
  unfold pHas slotHas slotPts addUp
  rw [slot_set]
  iintro ⟨⟨%g, %hg, Hp⟩, %f, %hf, Hs⟩ Hk
  iapply (wp_load_rect 𝒱₀ (c : Thread nD τ) none Set.univ (m := pbuf ch) (r := allR) (View.set_slice_subset _ _)) $$ Hp; iintro Hp
  iapply (wp_load_rect 𝒱₀ (c : Thread nD τ) none Set.univ (m := buf ch) (r := slotR p) (Finset.Subset.refl _)) $$ Hs; iintro Hs
  iapply (wp_load_rect 𝒱₀ (c : Thread nD τ) none Set.univ (m := buf ch) (r := slotR p) (Finset.Subset.refl _)) $$ Hs; iintro Hs
  iapply (wp_store 𝒱₀ (c : Thread nD τ) none Set.univ (m := buf ch) (r := slotR p) (Mk := Finset.univ) (slot_stores ch p)) $$ Hs; iintro Hs
  iapply Hk
  isplitl [Hp]
  · iexists g
    isplitr; · ipureintro; exact hg
    iexact Hp
  iexists _
  isplitr
  rotate_left
  · iexact Hs
  ipureintro
  rw [readAt_stored, ← hg, ← hf]
  rfl

end Cert.KernelIdeal.Ring8
-- ==== Proof.Hop.lean ====
/- One hop of one channel: waiting for the hop before, granting the freed slot upstream, adding up, waiting for the credit
   and sending on. Stated once for every device, channel and hop. -/
module

public import proofs.«01_k».proof.Proof.Contents

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Xs F) (Wt : Ws F) (K : Dev nD × Cx → ℕ)

/-! ## Parities -/

theorem par_succ (h : ℕ) : par ((par h).val + 1) = par (h + 1) := Fin.ext (by show (h % 2 + 1) % 2 = (h + 1) % 2; omega)
theorem par_two (h : ℕ) : par (h + 1 + 1) = par h := Fin.ext (by show (h + 1 + 1) % 2 = h % 2; omega)
theorem half_par (h : ℕ) : 2 * (h / 2) + (par h).val = h := by show 2 * (h / 2) + h % 2 = h; omega
theorem half_two (h : ℕ) : (h + 1 + 1) / 2 = h / 2 + 1 := by omega
theorem hop_lt {h : ℕ} (hh : h ≤ 6) : h / 2 < 4 - (par h).val := by show h / 2 < 4 - h % 2; omega

/-! ## What a channel keeps between two hops -/

def sendI (ch : Fin 8) (h : ℕ) : Item := ⟨.send ch (par h), h / 2, false⟩

/-- The rows of maxima that travel with hop `h` to device `c'`, and those a device has kept after `n` hops. -/
def xr (c' : Dev nD) (ch : Fin 8) (h : ℕ) : sProp 𝕄 := if ch = 0 then rowsL (back h c') (7 - h) else iprop(emp)
def keptIf (c : Dev nD) (ch : Fin 8) (n : ℕ) : sProp 𝕄 := if ch = 0 then keptL c n else iprop(emp)

/-- Of the rows that arrive a device keeps its own and hands on the others. -/
theorem xr_split (c : Dev nD) (ch : Fin 8) {h : ℕ} (hh : h ≤ 6) :
    iprop(xr c ch h ∗ keptIf c ch h) ⊢ (iprop(xr (dstD ch c) ch (h + 1) ∗ keptIf c ch (h + 1)) : sProp 𝕄) := by
  unfold xr keptIf
  by_cases h0 : ch = 0
  · subst h0
    rw [if_pos rfl, if_pos rfl, if_pos rfl, if_pos rfl]
    show _ ⊢ iprop(rowsL (back (h + 1) (nxt c)) (7 - (h + 1)) ∗ keptL c (h + 1))
    rw [back_succ_nxt, show 7 - h = (6 - h) + 1 by omega, show 7 - (h + 1) = 6 - h by omega]
    show iprop((rowAny (back h c) (fwd (7 - (6 - h)) (back h c)) ∗ rowsL (back h c) (6 - h)) ∗ keptL c h)
      ⊢ iprop(rowsL (back h c) (6 - h) ∗ rowAny (back h c) c ∗ keptL c h)
    rw [show 7 - (6 - h) = h + 1 by omega, fwd_back]
    iintro ⟨⟨Ha, Hb⟩, Hk⟩
    isplitl [Hb]; · iexact Hb
    isplitl [Ha] <;> iassumption
  · rw [if_neg h0, if_neg h0, if_neg h0, if_neg h0]

/-- What channel `ch` holds once hop `h` is sent. -/
def chSt (c : Dev nD) (ch : Fin 8) (h : ℕ) : sProp 𝕄 :=
  iprop(at_ c (.send ch (par h)) (h / 2) ∗ at_ c (.send ch (par (h + 1))) ((h + 1) / 2)
    ∗ at_ c (.recv ch (par h)) (h / 2) ∗ at_ c (.recv ch (par (h + 1))) ((h + 1) / 2)
    ∗ at_ c (.cred ch) h
    ∗ rch c (.send ch (par (h + 1))) ((h + 1) / 2) ∗ rch c (.recv ch (par (h + 1))) ((h + 1) / 2)
    ∗ crd c (.send ch (par h)) (h / 2) ∗ crd c (.recv ch (par h)) (h / 2))

/-- The rights of hop `h`: its three payments, and its two waits that others pay for. -/
def bundle (c : Dev nD) (ch : Fin 8) (h : ℕ) : sProp 𝕄 :=
  iprop(dTok c (credI ch h) ∗ dTok c (recvI ch h) ∗ dTok c (sendI ch h)
    ∗ crd c (.cred ch) (h - 1) ∗ crd c (.recv ch (par h)) (h / 2))

/-! ## The two waits -/

theorem waits_wp (c : Dev nD) (ch : Fin 8) {h : ℕ} (hh : h ≤ 6) (l : List Item)
    (hl : ∀ i ∈ l, i.r < 8 ∧ 101 + 20 * h + 2 * pos ch < levX i.x i.r) (k : P F) (Q : PUnit → sProp 𝕄) :
    iprop(recs X Wt K ∗ Ow c l ∗ crd c (.send ch (par h)) (h / 2) ∗ crd c (.recv ch (par h)) (h / 2)
        ∗ at_ c (.send ch (par h)) (h / 2) ∗ at_ c (.recv ch (par h)) (h / 2))
      ⊢ iprop(((Ow c l ∗ at_ c (.send ch (par h)) (h / 2 + 1) ∗ rch c (.send ch (par h)) (h / 2 + 1)
            ∗ at_ c (.recv ch (par h)) (h / 2 + 1) ∗ rch c (.recv ch (par h)) (h / 2 + 1)
            ∗ slotAny c ch (par (h + 1)) ∗ slotHas c ch (par h) (sent X Wt ch h (srcD ch c))
            ∗ rch (srcD ch c) (.cred ch) h ∗ xr c ch h) -∗ WP c k Q)
        -∗ WP c (waits ch h k) Q) := by
  unfold waits
  iintro ⟨#HR, HO, Hcs, Hcr, Has, Har⟩ Hk
  iapply (wait_cell X Wt K c (x := .send ch (par h)) (r := h / 2) (n := 0) (l := l)
      (fun K' => (wpE_waitDma2_eq 𝒱₀ (c : Thread nD τ) none Set.univ K').trans (by rw [slot_credit]; rfl))
      (hop_lt hh) (fun e => by cases e) (Nat.le_refl _) (fun i hi => ⟨(hl i hi).1, by have := (hl i hi).2; omega⟩)) $$ [Hcs HO Has]
  · isplitr; · iexact HR
    isplitl [Hcs]; · iexact Hcs
    isplitl [HO] <;> iassumption
  iintro ⟨HO, Has, Hrs, Hps⟩
  iapply (wait_cell X Wt K c (x := .recv ch (par h)) (r := h / 2) (n := 101 + 20 * h + 2 * pos ch) (l := l)
      (fun K' => (wpE_waitDma2_eq 𝒱₀ (c : Thread nD τ) none Set.univ K').trans (by rw [slot_credit]; rfl))
      (hop_lt hh) (fun e => by cases e) (by show 101 + 20 * (2 * (h / 2) + (par h).val) + 2 * pos ch ≤ _; rw [half_par]) hl) $$ [Hcr HO Har]
  · isplitr; · iexact HR
    isplitl [Hcr]; · iexact Hcr
    isplitl [HO] <;> iassumption
  iintro ⟨HO, Har, Hrr, Hpr⟩
  iapply Hk
  isplitl [HO]; · iexact HO
  isplitl [Has]; · iexact Has
  isplitl [Hrs]; · iexact Hrs
  isplitl [Har]; · iexact Har
  isplitl [Hrr]; · iexact Hrr
  ihave Hps := (Entails.of_eq (show pay X Wt c (.send ch (par h)) (h / 2) false = (slotAny c ch (par (h + 1)) : sProp 𝕄) by
    show slotAny c ch (par ((par h).val + 1)) = _; rw [par_succ])) $$ Hps
  ihave Hpr := (Entails.of_eq (show pay X Wt c (.recv ch (par h)) (h / 2) false = recvPay X Wt c ch h by
    show recvPay X Wt c ch (2 * (h / 2) + (par h).val) = _; rw [half_par])) $$ Hpr
  isplitl [Hps]; · iexact Hps
  unfold recvPay rch xr
  iexact Hpr

/-! ## The copy -/

theorem rdma_wp (c : Dev nD) (ch : Fin 8) {h : ℕ} (hh : h ≤ 6) (l : List Item) (k : P F) (Q : PUnit → sProp 𝕄) :
    iprop(recs X Wt K ∗ Ow c (recvI ch h :: l) ∗ slotHas c ch (par (h + 1)) (sent X Wt ch h c) ∗ slotAny (dstD ch c) ch (par h)
        ∗ dTok c (sendI ch h) ∗ dTok c (recvI ch h) ∗ rch c (.send ch (par h)) (h / 2) ∗ rch (dstD ch c) (.recv ch (par h)) (h / 2)
        ∗ rch c (.cred ch) h ∗ xr (dstD ch c) ch h)
      ⊢ iprop(((Ow c l ∗ crd c (.send ch (par h)) (h / 2)) -∗ WP c k Q) -∗ WP c (rdma c ch h k) Q) := by
  unfold Ow dTok rch crd slotHas slotAny slotPts rdma
  iintro ⟨#HR, ⟨%W, HO⟩, ⟨%fs, %hfs, Hs⟩, ⟨%fd, Hd⟩, Hts, Htr, Hrs, Hrr, Hrc, Hx⟩ Hk
  iapply (Rounds.wp_send_pointsTo_with 𝒱₀ ER (Rd X Wt) (c : Thread nD τ) none (c' := ((dstD ch c : Dev nD) : Thread nD τ))
      (src := slot ch (par (h + 1))) (dst := slot ch (par h)) (sS := .dma (sendS ch (par h))) (sem := .dma (recvS ch (par h)))
      (q := fullShare) (fs := fs) (fd := fd)
      (F := iprop(reached ER (cell c (.cred ch)) h ∗ xr (dstD ch c) ch h))
      (κ₁ := K (c, .send ch (par h))) (κ₂ := K (dstD ch c, .recv ch (par h)))
      (r₁ := h / 2) (r₂ := h / 2) (d₁ := false) (d₂ := false)
      (mem_duties X Wt c (x := .send ch (par h)) (hop_lt hh)) (mem_duties X Wt (dstD ch c) (x := .recv ch (par h)) (hop_lt hh))
      (h / 2) (h / 2) NB (slot_credit ch (par h)) (amount_cell X Wt c (.send ch (par h)) _ _)
      (amount_cell X Wt (dstD ch c) (.recv ch (par h)) _ _) (owed c l) rfl (W := W)
      (by
        refine BIBase.Entails.trans ?_ (Entails.of_eq (payload_cell X Wt c (.send ch (par h)) (h / 2) false).symm)
        show _ ⊢ slotAny c ch (par ((par h).val + 1))
        rw [par_succ]
        unfold slotAny slotPts
        iintro H
        iexists fs; iexact H)
      (by
        refine BIBase.Entails.trans ?_ (Entails.of_eq (payload_cell X Wt (dstD ch c) (.recv ch (par h)) (h / 2) false).symm)
        show _ ⊢ recvPay X Wt (dstD ch c) ch (2 * (h / 2) + (par h).val)
        rw [half_par]
        unfold recvPay slotHas slotPts
        rw [src_dst]
        iintro ⟨H, Hr, Hx⟩
        isplitl [H]
        · iexists _
          isplitr
          rotate_left
          · iexact H
          ipureintro
          rw [← hfs]
          exact readAt_landed ch (par (h + 1)) (par h) fd fs
        isplitl [Hr]; · iexact Hr
        unfold xr
        iexact Hx)) $$ [HO Hs Hd Hts Htr Hrs Hrr Hrc Hx]
  · isplitr; · iapply (recs_inv X Wt K c (.send ch (par h))); iexact HR
    isplitr; · iapply (recs_inv X Wt K (dstD ch c) (.recv ch (par h))); iexact HR
    isplitl [Hs]; · iexact Hs
    isplitl [Hd Hrc Hx]
    · isplitl [Hd]; · iexact Hd
      isplitl [Hrc] <;> iassumption
    isplitl [HO]; · iexact HO
    isplitl [Hts]; · iexact Hts
    isplitl [Hrs]; · iexact Hrs
    isplitl [Htr]; · iexact Htr
    iexact Hrr
  iintro ⟨Hc, HO⟩
  iapply Hk
  isplitl [HO]; · iexists W; iexact HO
  iexact Hc

/-! ## One hop -/

theorem mem_hopI {i : Item} {h : ℕ} {l : List (Fin 8)} (hi : i ∈ hopI h l) : ∃ ch ∈ l, i = credI ch h ∨ i = recvI ch h := by
  obtain ⟨ch, hc, hi⟩ := List.mem_flatMap.mp hi
  refine ⟨ch, hc, ?_⟩
  simpa using hi

theorem lev_credI (ch : Fin 8) {h : ℕ} : levX (credI ch (h + 1)).x (credI ch (h + 1)).r = 100 + 20 * (h + 1) + 2 * pos ch := rfl
theorem lev_recvI (ch : Fin 8) (h : ℕ) : levX (recvI ch h).x (recvI ch h).r = 101 + 20 * h + 2 * pos ch := by
  show 101 + 20 * (2 * (h / 2) + (par h).val) + 2 * pos ch = _; rw [half_par]
theorem pos_le (ch : Fin 8) : pos ch ≤ 7 := by revert ch; decide

/-- Every payment left in hop `h + 1` after channel `ch`'s, and every later one, is later than `ch`'s. -/
theorem hop_levels {ch : Fin 8} {h : ℕ} (hh : h ≤ 5) {l : List (Fin 8)} (hl : ∀ ch' ∈ l, pos ch < pos ch') {rest : List Item}
    (hr : ∀ i ∈ rest, i.r < 8 ∧ 100 + 20 * (h + 2) ≤ levX i.x i.r) :
    ∀ i ∈ hopI (h + 1) l ++ rest, i.r < 8 ∧ 101 + 20 * (h + 1) + 2 * pos ch < levX i.x i.r := by
  intro i hi
  have hp := pos_le ch
  rcases List.mem_append.mp hi with hi | hi
  · obtain ⟨ch', hc, rfl | rfl⟩ := mem_hopI hi
    · have := hl ch' hc
      exact ⟨by show h + 1 - 1 < 8; omega, by rw [lev_credI]; omega⟩
    · have := hl ch' hc
      exact ⟨by show (h + 1) / 2 < 8; omega, by rw [lev_recvI]; omega⟩
  · have := hr i hi
    exact ⟨this.1, by omega⟩

theorem hop_wp (c : Dev nD) (ch : Fin 8) {h : ℕ} (hh : h ≤ 5) (l : List (Fin 8)) (hl : ∀ ch' ∈ l, pos ch < pos ch')
    (rest : List Item) (hr : ∀ i ∈ rest, i.r < 8 ∧ 100 + 20 * (h + 2) ≤ levX i.x i.r) (k : P F) (Q : PUnit → sProp 𝕄) :
    iprop((recs X Wt K ∗ Ow c (hopI (h + 1) (ch :: l) ++ rest))
        ∗ (chSt c ch h ∗ bundle c ch (h + 1) ∗ pHas c ch (prod X Wt c ch (h + 1)) ∗ keptIf c ch h))
      ⊢ iprop((((recs X Wt K ∗ Ow c (hopI (h + 1) l ++ rest))
            ∗ (chSt c ch (h + 1) ∗ pHas c ch (prod X Wt c ch (h + 1)) ∗ keptIf c ch (h + 1))) -∗ WP c k Q)
        -∗ WP c (hop c (h + 1) ch k) Q) := by
  have hlev := hop_levels hh hl hr
  have hp := pos_le ch
  unfold hop chSt bundle
  rw [par_two]
  iintro ⟨⟨#HR, HO⟩, ⟨Has, Has', Har, Har', Hac, Hrs', #Hrr', Hcs, Hcr⟩, ⟨Htc, Htr, Hts, Hcc, Hcr'⟩, Hp, Hkept⟩ Hk
  iapply (waits_wp X Wt K c ch (h := h) (by omega) (credI ch (h + 1) :: recvI ch (h + 1) :: (hopI (h + 1) l ++ rest)) (by
      intro i hi
      rcases List.mem_cons.mp hi with rfl | hi
      · exact ⟨by show h + 1 - 1 < 8; omega, by rw [lev_credI]; omega⟩
      rcases List.mem_cons.mp hi with rfl | hi
      · exact ⟨by show (h + 1) / 2 < 8; omega, by rw [lev_recvI]; omega⟩
      have := hlev i hi
      exact ⟨this.1, by omega⟩)) $$ [HO Hcs Hcr Has Har]
  · isplitr; · iexact HR
    isplitl [HO]; · iexact HO
    isplitl [Hcs]; · iexact Hcs
    isplitl [Hcr]; · iexact Hcr
    isplitl [Has] <;> iassumption
  iintro ⟨HO, Has, Hrs, Har, Hrr, Hsl, Hin, Hrc, Hx⟩
  ihave Hxk := (xr_split (F := F) c ch (h := h) (by omega)) $$ [Hx Hkept]
  · isplitl [Hx] <;> iassumption
  icases Hxk with ⟨Hx, Hkept⟩
  -- the slot just freed is granted upstream
  iapply (signal_cell X Wt K c (credI ch (h + 1)) (sem := credS ch) (l := recvI ch (h + 1) :: (hopI (h + 1) l ++ rest)) rfl rfl
      (mem_duties X Wt (srcD ch c) (x := .cred ch) (r := h) (by show h < 6; omega))) $$ [HO Htc Hsl Hrc]
  · isplitr; · iexact HR
    isplitl [HO]; · iexact HO
    isplitl [Htc]; · iexact Htc
    isplitl [Hsl]
    · iapply (Entails.of_eq (show iprop(slotAny c ch (par (h + 1)) ∗ reached ER (cell c (.recv ch (par (h + 1)))) ((h + 1) / 2))
          = (pay X Wt ((credI ch (h + 1)).tgt c) (credI ch (h + 1)).x (credI ch (h + 1)).r (credI ch (h + 1)).d : sProp 𝕄) by
        show _ = credPay (srcD ch c) ch h
        unfold credPay
        rw [dst_src]))
      isplitl [Hsl]; · iexact Hsl
      unfold rch; iexact Hrr'
    iexact Hrc
  iintro HO
  -- the sum
  iapply (addUp_wp c ch (par h) (prod X Wt c ch (h + 1)) (sent X Wt ch h (srcD ch c))) $$ [Hp Hin]
  · isplitl [Hp] <;> iassumption
  iintro ⟨Hp, Hin⟩
  -- the credit
  iapply (wait_cell X Wt K c (x := .cred ch) (r := h) (n := 100 + 20 * (h + 1) + 2 * pos ch)
      (l := recvI ch (h + 1) :: (hopI (h + 1) l ++ rest))
      (wpE_semWait_eq 𝒱₀ (c : Thread nD τ) none Set.univ) (by show h < 6; omega) (fun e => by cases e) (Nat.le_refl _) (by
        intro i hi
        rcases List.mem_cons.mp hi with rfl | hi
        · exact ⟨by show (h + 1) / 2 < 8; omega, by rw [lev_recvI]; omega⟩
        have := hlev i hi
        exact ⟨this.1, by omega⟩)) $$ [HO Hcc Hac]
  · isplitr; · iexact HR
    isplitl [Hcc]; · iexact Hcc
    isplitl [HO] <;> iassumption
  iintro ⟨HO, Hac, #Hrc', Hpay⟩
  ihave Hpay := (Entails.of_eq (show pay X Wt c (.cred ch) h false = (iprop(slotAny (dstD ch c) ch (par (h + 1))
    ∗ rch (dstD ch c) (.recv ch (par (h + 1))) ((h + 1) / 2)) : sProp 𝕄) from rfl)) $$ Hpay
  icases Hpay with ⟨Hd, Hrd⟩
  -- the copy
  iapply (rdma_wp X Wt K c ch (h := h + 1) (by omega) (hopI (h + 1) l ++ rest)) $$ [HO Hin Hd Hts Htr Hrs' Hrd Hx]
  · isplitr; · iexact HR
    isplitl [HO]; · iexact HO
    isplitl [Hin]; · rw [par_two]; iexact Hin
    isplitl [Hd]; · iexact Hd
    isplitl [Hts]; · iexact Hts
    isplitl [Htr]; · iexact Htr
    isplitl [Hrs']; · iexact Hrs'
    isplitl [Hrd]; · iexact Hrd
    isplitr; · iexact Hrc'
    iexact Hx
  iintro ⟨HO, Hcs⟩
  iapply Hk
  isplitl [HO]
  · isplitr; · iexact HR
    iexact HO
  rw [half_two]
  isplitr [Hp Hkept]
  · isplitl [Has']; · iexact Has'
    isplitl [Has]; · iexact Has
    isplitl [Har']; · iexact Har'
    isplitl [Har]; · iexact Har
    isplitl [Hac]; · iexact Hac
    isplitl [Hrs]; · iexact Hrs
    isplitl [Hrr]; · iexact Hrr
    isplitl [Hcs] <;> iassumption
  isplitl [Hp] <;> iassumption

/-! ## The loops over the channels -/

/-- The order of service is the order of the places. -/
theorem order_sorted : order.Pairwise (fun a b => pos a < pos b) := by decide

theorem hopLoop_wp (c : Dev nD) {h : ℕ} (hh : h ≤ 5) (rest : List Item)
    (hr : ∀ i ∈ rest, i.r < 8 ∧ 100 + 20 * (h + 2) ≤ levX i.x i.r) (k : P F) (Q : PUnit → sProp 𝕄) :
    iprop((recs X Wt K ∗ Ow c (hopI (h + 1) order ++ rest))
        ∗ bigSepL order (fun ch => iprop(chSt c ch h ∗ bundle c ch (h + 1) ∗ pHas c ch (prod X Wt c ch (h + 1)) ∗ keptIf c ch h)))
      ⊢ iprop((((recs X Wt K ∗ Ow c rest)
            ∗ bigSepL order (fun ch => iprop(chSt c ch (h + 1) ∗ pHas c ch (prod X Wt c ch (h + 1)) ∗ keptIf c ch (h + 1)))) -∗ WP c k Q)
        -∗ WP c (order.foldr (hop c (h + 1)) k) Q) :=
  foldr_wp (fun a b => pos a < pos b) c (hop c (h + 1)) (fun l => iprop(recs X Wt K ∗ Ow c (hopI (h + 1) l ++ rest))) _ _ Q
    (fun ch l hl k => hop_wp X Wt K c ch hh l (List.pairwise_cons.mp hl).1 rest hr k Q) order order_sorted k

theorem dotLoop_wp (c : Dev nD) (h : Fin 8) (k : P F) (Q : PUnit → sProp 𝕄) :
    iprop(opers X Wt c ∗ bigSepL order (fun ch => pAny (F := F) c ch))
      ⊢ iprop(((opers X Wt c ∗ bigSepL order (fun ch => pHas c ch (prod X Wt c ch h.val))) -∗ WP c k Q)
        -∗ WP c (order.foldr (fun ch k => dot c ch h k) k) Q) :=
  foldr_wp (fun a b => pos a < pos b) c (fun ch k => dot c ch h k) (fun _ => opers X Wt c) _ _ Q
    (fun ch l hl k => dot_wp X Wt c ch h k Q) order order_sorted k

end Cert.KernelIdeal.Ring8
-- ==== Proof.Phases.lean ====
/- The phases of the ring: the barrier, the first copies, the six hops and the last waits, each for all the channels. -/
module

public import proofs.«01_k».proof.Proof.Hop

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Xs F) (Wt : Ws F) (K : Dev nD × Cx → ℕ)

theorem sep_four (A B C D : sProp 𝕄) : iprop((A ∗ B) ∗ C ∗ D) ⊢ (iprop((A ∗ C) ∗ B ∗ D) : sProp 𝕄) := by
  iintro ⟨⟨HA, HB⟩, HC, HD⟩
  isplitl [HA HC]
  · isplitl [HA] <;> iassumption
  isplitl [HB] <;> iassumption

theorem bigSepL_sep {I : Type} (l : List I) (A B : I → sProp 𝕄) :
    bigSepL l (fun i => iprop(A i ∗ B i)) = iprop(bigSepL l A ∗ bigSepL l B) := by
  induction l with
  | nil => exact (emp_sep_eq _).symm
  | cons i l ih =>
    rw [bigSepL_cons', bigSepL_cons', bigSepL_cons', ih]
    exact BI.equiv_iff.mp ⟨sep_four _ _ _ _, sep_four _ _ _ _⟩

theorem bigSepL_two {I : Type} (i j : I) (l : List I) (A : I → sProp 𝕄) :
    bigSepL (i :: j :: l) A = iprop(A i ∗ bigSepL (j :: l) A) := rfl

theorem recs_rch (c : Dev nD) (x : Cx) : recs X Wt K ⊢ (rch c x 0 : sProp 𝕄) := by
  unfold rch
  exact recs_reached X Wt K c x

/-! ## The barrier -/

theorem barrier_wp (c : Dev nD) (k : P F) (Q : PUnit → sProp 𝕄) :
    iprop(recs X Wt K ∗ Ow c allI ∗ dTok c ⟨.bar, 0, true⟩ ∗ dTok c ⟨.bar, 0, false⟩ ∗ crd c .bar 0 ∗ crd c .bar 0 ∗ at_ c .bar 0
        ∗ bigSepL order (fun ch => slotAny c ch 0))
      ⊢ iprop(((Ow c ringI ∗ at_ c .bar 1 ∗ bigSepL order (fun ch => slotAny (dstD ch c) ch 0)) -∗ WP c k Q)
        -∗ WP c (barrier c k) Q) := by
  unfold barrier order
  simp only [bigSepL_two, bigSepL_singleton]
  iintro ⟨#HR, HO, Ht1, Ht2, Hc1, Hc2, Ha, H0, H4, H1, H5, H2, H6, H3, H7⟩ Hk
  iapply (signal_cell X Wt K c ⟨.bar, 0, true⟩ (sem := barS) (l := ⟨.bar, 0, false⟩ :: ringI) rfl rfl
      (mem_duties_bar X Wt (prv c) true)) $$ [HO Ht1 H0 H1 H2 H3]
  · isplitr; · iexact HR
    isplitl [HO]; · iexact HO
    isplitl [Ht1]; · iexact Ht1
    isplitl [H0 H1 H2 H3]
    · iapply (Entails.of_eq (show iprop(slotAny c 0 0 ∗ slotAny c 1 0 ∗ slotAny c 2 0 ∗ slotAny c 3 0)
          = (pay X Wt ((Item.mk .bar 0 true).tgt c) .bar 0 true : sProp 𝕄) by
        show _ = iprop(slotAny (nxt (prv c)) 0 0 ∗ slotAny (nxt (prv c)) 1 0 ∗ slotAny (nxt (prv c)) 2 0 ∗ slotAny (nxt (prv c)) 3 0)
        rw [nxt_prv]))
      isplitl [H0]; · iexact H0
      isplitl [H1]; · iexact H1
      isplitl [H2] <;> iassumption
    iapply (recs_rch X Wt K _ _); iexact HR
  iintro HO
  iapply (signal_cell X Wt K c ⟨.bar, 0, false⟩ (sem := barS) (l := ringI) rfl rfl
      (mem_duties_bar X Wt (nxt c) false)) $$ [HO Ht2 H4 H5 H6 H7]
  · isplitr; · iexact HR
    isplitl [HO]; · iexact HO
    isplitl [Ht2]; · iexact Ht2
    isplitl [H4 H5 H6 H7]
    · iapply (Entails.of_eq (show iprop(slotAny c 4 0 ∗ slotAny c 5 0 ∗ slotAny c 6 0 ∗ slotAny c 7 0)
          = (pay X Wt ((Item.mk .bar 0 false).tgt c) .bar 0 false : sProp 𝕄) by
        show _ = iprop(slotAny (prv (nxt c)) 4 0 ∗ slotAny (prv (nxt c)) 5 0 ∗ slotAny (prv (nxt c)) 6 0 ∗ slotAny (prv (nxt c)) 7 0)
        rw [prv_nxt]))
      isplitl [H4]; · iexact H4
      isplitl [H5]; · iexact H5
      isplitl [H6] <;> iassumption
    iapply (recs_rch X Wt K _ _); iexact HR
  iintro HO
  unfold Ow crd at_
  icases HO with ⟨%W, HO⟩
  iapply (Rounds.wp_wait_rest_token 𝒱₀ ER (Rd X Wt) (c : Thread nD τ) none (κ := K (c, .bar)) (sm := semOf .bar) (k' := 2)
      (wpE_semWait_eq 𝒱₀ (c : Thread nD τ) none Set.univ) (Set.mem_univ _) 0 (O := owed c ringI) (W := W) (R := 0) (m := 0) (T := ∅)
      (expect_bar X Wt c).symm) $$ [Hc1 Hc2 HO Ha]
  · isplitr; · iapply (recs_inv X Wt K c .bar); iexact HR
    isplitl [Hc1 Hc2]
    · iapply (Entails.of_eq (show iprop(cred (tallyAt (cell c .bar) 0 1) ∗ cred (tallyAt (cell c .bar) 0 1))
          = (cred (tallyAt (cell c .bar) 0 2) : sProp 𝕄) by
        rw [← tallyAt_add (cell c .bar) 0 1 1]; exact (BI.equiv_iff.mp ⟨(cred_add _ _).1, (cred_add _ _).2⟩).symm))
      isplitl [Hc1]; · iexact Hc1
      iexact Hc2
    isplitl [HO]; · iexact HO
    isplitr
    · iapply (mayWait (F := F) c (s := semOf .bar) (r := 0) (n := 1) (by decide) (by
        have := lev_cell c .bar 0
        exact this.le) (l := ringI) (by decide +kernel))
      iapply (recs_lev X Wt K); iexact HR
    iexact Ha
  iintro ⟨HO, Ha, -, Hp⟩
  ihave Hp := (Entails.of_eq (rest_bar X Wt c)) $$ Hp
  unfold barPay
  simp only [if_true, Bool.false_eq_true, if_false]
  icases Hp with ⟨⟨H0, H1, H2, H3⟩, H4, H5, H6, H7⟩
  iapply Hk
  isplitl [HO]; · iexists _; iexact HO
  isplitl [Ha]; · iexact Ha
  isplitl [H0]; · iexact H0
  isplitl [H4]; · iexact H4
  isplitl [H1]; · iexact H1
  isplitl [H5]; · iexact H5
  isplitl [H2]; · iexact H2
  isplitl [H6]; · iexact H6
  isplitl [H3] <;> iassumption

/-! ## The first copies -/

/-- A channel's places before anything has happened, and the rights of its first copy. -/
def at0 (c : Dev nD) (ch : Fin 8) : sProp 𝕄 :=
  iprop(at_ c (.send ch 0) 0 ∗ at_ c (.send ch 1) 0 ∗ at_ c (.recv ch 0) 0 ∗ at_ c (.recv ch 1) 0 ∗ at_ c (.cred ch) 0)
def bundle0 (c : Dev nD) (ch : Fin 8) : sProp 𝕄 :=
  iprop(dTok c (recvI ch 0) ∗ dTok c (sendI ch 0) ∗ crd c (.recv ch 0) 0)
/-- The rows of maxima, all but the device's own, start on channel 0. -/
def rows0 (c : Dev nD) (ch : Fin 8) : sProp 𝕄 := if ch = 0 then rowsL c 7 else iprop(emp)

theorem rows0_xr (c : Dev nD) (ch : Fin 8) : (rows0 c ch : sProp 𝕄) = xr (dstD ch c) ch 0 := by
  unfold rows0 xr
  by_cases h : ch = 0
  · subst h
    rw [if_pos rfl, if_pos rfl]
    show rowsL c 7 = rowsL (back 0 (nxt c)) 7
    rw [back_zero_nxt]
  · rw [if_neg h, if_neg h]

theorem first_wp (c : Dev nD) (ch : Fin 8) (l : List (Fin 8)) (rest : List Item) (k : P F) (Q : PUnit → sProp 𝕄) :
    iprop((recs X Wt K ∗ opers X Wt c ∗ Ow c ((ch :: l).map (fun ch => recvI ch 0) ++ rest))
        ∗ (slotAny c ch 1 ∗ slotAny (dstD ch c) ch 0 ∗ at0 c ch ∗ bundle0 c ch ∗ rows0 c ch))
      ⊢ iprop((((recs X Wt K ∗ opers X Wt c ∗ Ow c (l.map (fun ch => recvI ch 0) ++ rest)) ∗ chSt c ch 0) -∗ WP c k Q)
        -∗ WP c (dot0 c ch (rdma c ch 0 k)) Q) := by
  unfold at0 bundle0
  rw [rows0_xr]
  iintro ⟨⟨#HR, Hop, HO⟩, Hs, Hd, ⟨Has, Has', Har, Har', Hac⟩, ⟨Htr, Hts, Hcr⟩, Hx⟩ Hk
  iapply (dot0_wp X Wt c ch) $$ [Hop Hs]
  · isplitl [Hop] <;> iassumption
  iintro ⟨Hop, Hs⟩
  iapply (rdma_wp X Wt K c ch (h := 0) (by omega) (l.map (fun ch => recvI ch 0) ++ rest)) $$ [HO Hs Hd Htr Hts Hx]
  · isplitr; · iexact HR
    isplitl [HO]; · iexact HO
    isplitl [Hs]; · iexact Hs
    isplitl [Hd]; · iexact Hd
    isplitl [Hts]; · iexact Hts
    isplitl [Htr]; · iexact Htr
    isplitr; · iapply (recs_rch X Wt K _ _); iexact HR
    isplitr; · iapply (recs_rch X Wt K _ _); iexact HR
    isplitr; · iapply (recs_rch X Wt K _ _); iexact HR
    iexact Hx
  iintro ⟨HO, Hcs⟩
  iapply Hk
  isplitl [HO Hop]
  · isplitr; · iexact HR
    isplitl [Hop] <;> iassumption
  unfold chSt
  isplitl [Has]; · iexact Has
  isplitl [Has']; · iexact Has'
  isplitl [Har]; · iexact Har
  isplitl [Har']; · iexact Har'
  isplitl [Hac]; · iexact Hac
  isplitr; · iapply (recs_rch X Wt K _ _); iexact HR
  isplitr; · iapply (recs_rch X Wt K _ _); iexact HR
  isplitl [Hcs]; · iexact Hcs
  iexact Hcr

theorem firstLoop_wp (c : Dev nD) (rest : List Item) (k : P F) (Q : PUnit → sProp 𝕄) :
    iprop((recs X Wt K ∗ opers X Wt c ∗ Ow c (order.map (fun ch => recvI ch 0) ++ rest))
        ∗ bigSepL order (fun ch => iprop(slotAny c ch 1 ∗ slotAny (dstD ch c) ch 0 ∗ at0 c ch ∗ bundle0 c ch ∗ rows0 c ch)))
      ⊢ iprop((((recs X Wt K ∗ opers X Wt c ∗ Ow c rest) ∗ bigSepL order (fun ch => chSt c ch 0)) -∗ WP c k Q)
        -∗ WP c (order.foldr (fun ch k => dot0 c ch (rdma c ch 0 k)) k) Q) :=
  foldr_wp (fun a b => pos a < pos b) c (fun ch k => dot0 c ch (rdma c ch 0 k))
    (fun l => iprop(recs X Wt K ∗ opers X Wt c ∗ Ow c (l.map (fun ch => recvI ch 0) ++ rest))) _ _ Q
    (fun ch l hl k => first_wp X Wt K c ch l rest k Q) order order_sorted k

/-! ## A hop of all the channels, and the products of the next -/

/-- Channel `ch` between the hops: hop `h` sent, the product of the next in its buffer, its row handed over `h` times. -/
def mid (c : Dev nD) (h : ℕ) (ch : Fin 8) : sProp 𝕄 :=
  iprop(chSt c ch h ∗ pHas c ch (prod X Wt c ch (h + 1)) ∗ keptIf c ch h)

theorem hops_wp (c : Dev nD) {h : ℕ} (hh : h ≤ 5) (a b : Fin 8) (ea : a.val = h + 1) (eb : b.val = h + 2) (rest : List Item)
    (hr : ∀ i ∈ rest, i.r < 8 ∧ 100 + 20 * (h + 2) ≤ levX i.x i.r) (k : P F) (Q : PUnit → sProp 𝕄) :
    iprop(recs X Wt K ∗ opers X Wt c ∗ Ow c (hopI (h + 1) order ++ rest) ∗ bigSepL order (mid X Wt c h)
        ∗ bigSepL order (fun ch => bundle c ch (h + 1)))
      ⊢ iprop(((opers X Wt c ∗ Ow c rest ∗ bigSepL order (mid X Wt c (h + 1))) -∗ WP c k Q)
        -∗ WP c (hops c a b k) Q) := by
  have e₀ : ∀ n, bigSepL order (mid X Wt c n) = iprop(bigSepL order (fun ch => chSt c ch n)
      ∗ bigSepL order (fun ch => pHas c ch (prod X Wt c ch (n + 1))) ∗ bigSepL order (fun ch => keptIf c ch n)) := fun n => by
    unfold mid
    rw [bigSepL_sep, bigSepL_sep]
  have e₁ : ∀ h, bigSepL order (fun ch => iprop(chSt c ch h ∗ bundle c ch (h + 1) ∗ pHas c ch (prod X Wt c ch (h + 1)) ∗ keptIf c ch h))
      = iprop(bigSepL order (fun ch => chSt c ch h) ∗ bigSepL order (fun ch => bundle c ch (h + 1))
        ∗ bigSepL order (fun ch => pHas c ch (prod X Wt c ch (h + 1))) ∗ bigSepL order (fun ch => keptIf c ch h)) := fun h => by
    rw [bigSepL_sep, bigSepL_sep, bigSepL_sep]
  have e₂ : ∀ h, bigSepL order (fun ch => iprop(chSt c ch (h + 1) ∗ pHas c ch (prod X Wt c ch (h + 1)) ∗ keptIf c ch (h + 1)))
      = iprop(bigSepL order (fun ch => chSt c ch (h + 1))
        ∗ bigSepL order (fun ch => pHas c ch (prod X Wt c ch (h + 1))) ∗ bigSepL order (fun ch => keptIf c ch (h + 1))) := fun h => by
    rw [bigSepL_sep, bigSepL_sep]
  have e₃ : bigSepL order (fun ch => pHas c ch (prod X Wt c ch b.val))
      = (bigSepL order (fun ch => pHas c ch (prod X Wt c ch (h + 1 + 1))) : sProp 𝕄) := by rw [eb]
  unfold hops
  rw [ea]
  iintro ⟨#HR, Hop, HO, Hm, Hb⟩ Hk
  iapply (hopLoop_wp X Wt K c hh rest hr) $$ [HO Hm Hb]
  · isplitl [HO]
    · isplitr; · iexact HR
      iexact HO
    ihave Hm := (Entails.of_eq (e₀ h)) $$ Hm
    iapply (Entails.of_eq (e₁ h).symm)
    icases Hm with ⟨H1, H2, H3⟩
    isplitl [H1]; · iexact H1
    isplitl [Hb]; · iexact Hb
    isplitl [H2] <;> iassumption
  iintro ⟨⟨-, HO⟩, Hm⟩
  ihave Hm := (Entails.of_eq (e₂ h)) $$ Hm
  icases Hm with ⟨H1, H2, H3⟩
  iapply (dotLoop_wp X Wt c b) $$ [Hop H2]
  · isplitl [Hop]; · iexact Hop
    iapply (bigSepL_mono fun ch _ => pHas_any c ch _)
    iexact H2
  iintro ⟨Hop, H2⟩
  iapply Hk
  isplitl [Hop]; · iexact Hop
  isplitl [HO]; · iexact HO
  iapply (Entails.of_eq (e₀ (h + 1)).symm)
  isplitl [H1]; · iexact H1
  isplitl [H2]
  · iapply (Entails.of_eq e₃); iexact H2
  iexact H3

/-! ## The last waits -/

/-- Channel `ch` when its copies are over. -/
def over (c : Dev nD) (ch : Fin 8) : sProp 𝕄 :=
  iprop(at_ c (.send ch 0) 4 ∗ at_ c (.send ch 1) 3 ∗ at_ c (.recv ch 0) 4 ∗ at_ c (.recv ch 1) 3 ∗ at_ c (.cred ch) 6)

theorem last_wp (c : Dev nD) (ch : Fin 8) (l : List (Fin 8)) (k : P F) (Q : PUnit → sProp 𝕄) :
    iprop((recs X Wt K ∗ Ow c (tailI 0)) ∗ mid X Wt c 6 ch)
      ⊢ iprop((((recs X Wt K ∗ Ow c (tailI 0)) ∗ (over c ch ∗ slotAny c ch 1 ∗ slotHas c ch 0 (arrived X Wt c ch)
            ∗ pHas c ch (prod X Wt c ch 7) ∗ keptIf c ch 7)) -∗ WP c k Q)
        -∗ WP c (waits ch 6 k) Q) := by
  have hp := pos_le ch
  unfold mid chSt over
  iintro ⟨⟨#HR, HO⟩, ⟨Has, Has', Har, Har', Hac, Hrs', Hrr', Hcs, Hcr⟩, Hp, Hkept⟩ Hk
  iapply (waits_wp X Wt K c ch (h := 6) (by omega) (tailI 0) (by
      intro i hi
      have : i.r < 8 ∧ 1000 ≤ levX i.x i.r := by revert i; decide +kernel
      exact ⟨this.1, by omega⟩)) $$ [HO Hcs Hcr Has Har]
  · isplitr; · iexact HR
    isplitl [HO]; · iexact HO
    isplitl [Hcs]; · iexact Hcs
    isplitl [Hcr]; · iexact Hcr
    isplitl [Has] <;> iassumption
  iintro ⟨HO, Has, Hrs, Har, Hrr, Hsl, Hin, Hrc, Hx⟩
  ihave Hxk := (xr_split (F := F) c ch (h := 6) (by omega)) $$ [Hx Hkept]
  · isplitl [Hx] <;> iassumption
  icases Hxk with ⟨Hx, Hkept⟩
  iapply Hk
  isplitl [HO]
  · isplitr; · iexact HR
    iexact HO
  isplitl [Has Has' Har Har' Hac]
  · isplitl [Has]; · iexact Has
    isplitl [Has']; · iexact Has'
    isplitl [Har]; · iexact Har
    isplitl [Har']; · iexact Har'
    iexact Hac
  isplitl [Hsl]; · iexact Hsl
  isplitl [Hin]; · iexact Hin
  isplitl [Hp] <;> iassumption

theorem lastLoop_wp (c : Dev nD) (k : P F) (Q : PUnit → sProp 𝕄) :
    iprop((recs X Wt K ∗ Ow c (tailI 0)) ∗ bigSepL order (mid X Wt c 6))
      ⊢ iprop((((recs X Wt K ∗ Ow c (tailI 0)) ∗ bigSepL order (fun ch => iprop(over c ch ∗ slotAny c ch 1
            ∗ slotHas c ch 0 (arrived X Wt c ch) ∗ pHas c ch (prod X Wt c ch 7) ∗ keptIf c ch 7))) -∗ WP c k Q)
        -∗ WP c (order.foldr (fun ch k => waits ch 6 k) k) Q) :=
  foldr_wp (fun a b => pos a < pos b) c (fun ch k => waits ch 6 k) (fun _ => iprop(recs X Wt K ∗ Ow c (tailI 0))) _ _ Q
    (fun ch l hl k => last_wp X Wt K c ch l k Q) order order_sorted k

/-! ## The ring -/

/-- What the ring takes, channel by channel, besides the barrier's rights. -/
def chIn (c : Dev nD) (ch : Fin 8) : sProp 𝕄 :=
  iprop(slotAny c ch 0 ∗ slotAny c ch 1 ∗ pAny c ch ∗ at0 c ch ∗ rows0 c ch ∗ bundle0 c ch
    ∗ bundle c ch 1 ∗ bundle c ch 2 ∗ bundle c ch 3 ∗ bundle c ch 4 ∗ bundle c ch 5 ∗ bundle c ch 6)
def barIn (c : Dev nD) : sProp 𝕄 :=
  iprop(dTok c ⟨.bar, 0, true⟩ ∗ dTok c ⟨.bar, 0, false⟩ ∗ crd c .bar 0 ∗ crd c .bar 0 ∗ at_ c .bar 0)
/-- What it leaves. -/
def chOut (c : Dev nD) (ch : Fin 8) : sProp 𝕄 :=
  iprop(over c ch ∗ slotAny c ch 1 ∗ slotHas c ch 0 (arrived X Wt c ch) ∗ pHas c ch (prod X Wt c ch 7) ∗ keptIf c ch 7)

theorem ring_wp (c : Dev nD) (k : P F) (Q : PUnit → sProp 𝕄) :
    iprop(recs X Wt K ∗ opers X Wt c ∗ Ow c allI ∗ barIn c ∗ bigSepL order (chIn c))
      ⊢ iprop(((opers X Wt c ∗ Ow c (tailI 0) ∗ at_ c .bar 1 ∗ bigSepL order (chOut X Wt c)) -∗ WP c k Q)
        -∗ WP c (ring c (order.foldr (fun ch k => waits ch 6 k) k)) Q) := by
  have e₁ : bigSepL order (chIn (F := F) c) = iprop(bigSepL order (fun ch => slotAny c ch 0) ∗ bigSepL order (fun ch => slotAny c ch 1)
      ∗ bigSepL order (fun ch => pAny c ch) ∗ bigSepL order (fun ch => at0 c ch) ∗ bigSepL order (fun ch => rows0 c ch)
      ∗ bigSepL order (fun ch => bundle0 c ch) ∗ bigSepL order (fun ch => bundle c ch 1) ∗ bigSepL order (fun ch => bundle c ch 2)
      ∗ bigSepL order (fun ch => bundle c ch 3) ∗ bigSepL order (fun ch => bundle c ch 4) ∗ bigSepL order (fun ch => bundle c ch 5)
      ∗ bigSepL order (fun ch => bundle c ch 6)) := by
    unfold chIn
    simp only [bigSepL_sep]
  have e₂ : bigSepL order (mid X Wt c 0)
      = iprop(bigSepL order (fun ch => chSt c ch 0) ∗ bigSepL order (fun ch => pHas c ch (prod X Wt c ch 1))) := by
    rw [← bigSepL_sep]
    congr 1
    funext ch
    unfold mid keptIf keptL
    rw [ite_self]
    exact congrArg (fun Z => iprop(chSt c ch 0 ∗ Z)) (sep_emp_eq _)
  have e₃ : bigSepL order (fun ch => iprop(slotAny c ch 1 ∗ slotAny (dstD ch c) ch 0 ∗ at0 c ch ∗ bundle0 c ch ∗ rows0 c ch))
      = (iprop(bigSepL order (fun ch => slotAny c ch 1) ∗ bigSepL order (fun ch => slotAny (dstD ch c) ch 0)
        ∗ bigSepL order (fun ch => at0 c ch) ∗ bigSepL order (fun ch => bundle0 c ch) ∗ bigSepL order (fun ch => rows0 c ch)) : sProp 𝕄) := by
    simp only [bigSepL_sep]
  rw [e₁]
  unfold ring barIn
  iintro ⟨#HR, Hop, HO, ⟨Ht1, Ht2, Hc1, Hc2, Ha⟩, Hs0, Hs1, Hp, Hat, Hrows, Hb0, Hb1, Hb2, Hb3, Hb4, Hb5, Hb6⟩ Hk
  iapply (barrier_wp X Wt K c) $$ [HO Ht1 Ht2 Hc1 Hc2 Ha Hs0]
  · isplitr; · iexact HR
    isplitl [HO]; · iexact HO
    isplitl [Ht1]; · iexact Ht1
    isplitl [Ht2]; · iexact Ht2
    isplitl [Hc1]; · iexact Hc1
    isplitl [Hc2]; · iexact Hc2
    isplitl [Ha]; · iexact Ha
    iexact Hs0
  iintro ⟨HO, Ha, Hd0⟩
  iapply (firstLoop_wp X Wt K c (tailI 6)) $$ [Hop HO Hs1 Hd0 Hat Hb0 Hrows]
  · isplitl [Hop HO]
    · isplitr; · iexact HR
      isplitl [Hop]; · iexact Hop
      iexact HO
    iapply (Entails.of_eq e₃.symm)
    isplitl [Hs1]; · iexact Hs1
    isplitl [Hd0]; · iexact Hd0
    isplitl [Hat]; · iexact Hat
    isplitl [Hb0]; · iexact Hb0
    iexact Hrows
  iintro ⟨⟨-, Hop, HO⟩, Hst⟩
  iapply (dotLoop_wp X Wt c 1) $$ [Hop Hp]
  · isplitl [Hop] <;> iassumption
  iintro ⟨Hop, Hp⟩
  ihave Hm := (Entails.of_eq e₂.symm) $$ [Hst Hp]
  · isplitl [Hst]; · iexact Hst
    iexact Hp
  iapply (hops_wp X Wt K c (h := 0) (by omega) 1 2 rfl rfl (tailI 5) (by decide +kernel)) $$ [Hop HO Hm Hb1]
  · isplitr; · iexact HR
    isplitl [Hop]; · iexact Hop
    isplitl [HO]; · iexact HO
    isplitl [Hm] <;> iassumption
  iintro ⟨Hop, HO, Hm⟩
  iapply (hops_wp X Wt K c (h := 1) (by omega) 2 3 rfl rfl (tailI 4) (by decide +kernel)) $$ [Hop HO Hm Hb2]
  · isplitr; · iexact HR
    isplitl [Hop]; · iexact Hop
    isplitl [HO]; · iexact HO
    isplitl [Hm] <;> iassumption
  iintro ⟨Hop, HO, Hm⟩
  iapply (hops_wp X Wt K c (h := 2) (by omega) 3 4 rfl rfl (tailI 3) (by decide +kernel)) $$ [Hop HO Hm Hb3]
  · isplitr; · iexact HR
    isplitl [Hop]; · iexact Hop
    isplitl [HO]; · iexact HO
    isplitl [Hm] <;> iassumption
  iintro ⟨Hop, HO, Hm⟩
  iapply (hops_wp X Wt K c (h := 3) (by omega) 4 5 rfl rfl (tailI 2) (by decide +kernel)) $$ [Hop HO Hm Hb4]
  · isplitr; · iexact HR
    isplitl [Hop]; · iexact Hop
    isplitl [HO]; · iexact HO
    isplitl [Hm] <;> iassumption
  iintro ⟨Hop, HO, Hm⟩
  iapply (hops_wp X Wt K c (h := 4) (by omega) 5 6 rfl rfl (tailI 1) (by decide +kernel)) $$ [Hop HO Hm Hb5]
  · isplitr; · iexact HR
    isplitl [Hop]; · iexact Hop
    isplitl [HO]; · iexact HO
    isplitl [Hm] <;> iassumption
  iintro ⟨Hop, HO, Hm⟩
  iapply (hops_wp X Wt K c (h := 5) (by omega) 6 7 rfl rfl (tailI 0) (by decide +kernel)) $$ [Hop HO Hm Hb6]
  · isplitr; · iexact HR
    isplitl [Hop]; · iexact Hop
    isplitl [HO]; · iexact HO
    isplitl [Hm] <;> iassumption
  iintro ⟨Hop, HO, Hm⟩
  iapply (lastLoop_wp X Wt K c) $$ [HO Hm]
  · isplitl [HO]
    · isplitr; · iexact HR
      iexact HO
    iexact Hm
  iintro ⟨⟨-, HO⟩, Hm⟩
  iapply Hk
  isplitl [Hop]; · iexact Hop
  isplitl [HO]; · iexact HO
  isplitl [Ha]; · iexact Ha
  iexact Hm

end Cert.KernelIdeal.Ring8
-- ==== Proof.Result.lean ====
/- The result's buffer, column block by column block: the last sums are put into it, and it is quantised in place. And the
   array of maxima, row by row. -/
module

public import proofs.«01_k».proof.Proof.Phases
public import Idealize.ShloMosaic.Lib.Ring

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Xs F) (Wt : Ws F) (K : Dev nD × Cx → ℕ)

/-! ## The columns of the result -/

abbrev OutT (F : FTy → Type) := (cc0_stg2_0 : Ref sig .tc).ty.Contents (Elt F)

/-- What a load reads of column block `ch`. -/
def colOf (f : OutT F) (ch : Fin 8) : FVec F S512x1024 .f32 := oM.view.readAt (Elt F) (colR ch).toLoadRect f
/-- The buffer with column block `ch` stored. -/
def putCol (f : OutT F) (ch : Fin 8) (v : FVec F S512x1024 .f32) : OutT F :=
  (oM.access (colR ch)).write (Elt F) f v Finset.univ

theorem colR_disjoint {ch ch' : Fin 8} (h : ch ≠ ch') : Disjoint (colR ch).set (colR ch').set := by
  rw [Finset.disjoint_left]
  intro i hi hi'
  have h1 := (Rect.mem_set_unit.mp hi) 1
  have h2 := (Rect.mem_set_unit.mp hi') 1
  have h1a : 1024 * ch.val ≤ (i 1).val := h1.1
  have h1b : (i 1).val < 1024 * ch.val + 1024 := h1.2
  have h2a : 1024 * ch'.val ≤ (i 1).val := h2.1
  have h2b : (i 1).val < 1024 * ch'.val + 1024 := h2.2
  exact h (Fin.ext (by omega))

theorem colOf_put (f : OutT F) (ch : Fin 8) (v : FVec F S512x1024 .f32) : colOf (putCol f ch v) ch = v :=
  View.read_write_univ (v := oM.access (colR ch)) (Val := Elt F) f v
theorem colOf_put_ne (f : OutT F) {ch ch' : Fin 8} (h : ch' ≠ ch) (v : FVec F S512x1024 .f32) :
    colOf (putCol f ch v) ch' = colOf f ch' := by
  refine View.read_slice_write_slice_of_disjoint (v := oM.view) (Val := Elt F) (colR ch') (colR ch) f v Finset.univ ?_
  have e : ∀ n, (oM.view.slice (colR n)).set = (colR n).set := fun n => View.set_slice_whole cc0_stg2_0 (colR n)
  have h' := colR_disjoint h
  rw [← e, ← e] at h'
  exact h'

/-- An element of the result is an element of its column block. -/
theorem colOf_within (f : OutT F) (i : S512x8192.Idx) : colOf f (chanOf i) (within i) = f i := by
  show f ((colR (chanOf i)).emb (within i)) = f i
  congr 1
  funext a
  apply Fin.ext
  rw [Rect.emb_apply]
  have h1 : (i 1).val < 8192 := (i 1).isLt
  fin_cases a
  · show 0 + 1 * (i 0).val = (i 0).val
    omega
  · show 1024 * ((i 1).val / 1024) + 1 * ((i 1).val % 1024) = (i 1).val
    omega

def oPts (c : Dev nD) (f : OutT F) : sProp 𝕄 := oM.view.loc (c : Thread nD τ) ↦[oM.view.set]{fullShare} f

/-! ## The last sums -/

theorem accum_wp (c : Dev nD) (ch : Fin 8) (m : F .f32) (V : FVec F S512x1024 .bf16) (U : FVec F S1x512x1024 .bf16) (f : OutT F)
    (k : F .f32 → P F) (Q : PUnit → sProp 𝕄) :
    iprop(pHas c ch V ∗ slotHas c ch 0 U ∗ oPts c f)
      ⊢ iprop(((pHas c ch V ∗ slotHas c ch 0 U ∗ oPts c (putCol f ch (accV V U))) -∗ WP c (k (maxV m V U)) Q)
        -∗ WP c (accum ch m k) Q) := by
  unfold pHas slotHas slotPts oPts accum
  rw [slot_set]
  iintro ⟨⟨%g, %hg, Hp⟩, ⟨%u, %hu, Hs⟩, Ho⟩ Hk
  iapply (wp_load_rect 𝒱₀ (c : Thread nD τ) none Set.univ (m := pbuf ch) (r := allR) (View.set_slice_subset _ _)) $$ Hp; iintro Hp
  iapply (wp_load_rect 𝒱₀ (c : Thread nD τ) none Set.univ (m := buf ch) (r := slotR 0) (Finset.Subset.refl _)) $$ Hs; iintro Hs
  iapply (wp_load_rect 𝒱₀ (c : Thread nD τ) none Set.univ (m := oM) (r := colR ch) (View.set_slice_subset _ _)) $$ Ho; iintro Ho
  iapply (wp_store 𝒱₀ (c : Thread nD τ) none Set.univ (m := oM) (r := colR ch) (Mk := Finset.univ) (View.set_slice_subset _ _)) $$ Ho; iintro Ho
  subst hg
  subst hu
  iapply Hk
  isplitl [Hp]
  · iexists g
    isplitr; · ipureintro; rfl
    iexact Hp
  isplitl [Hs]
  · iexists u
    isplitr; · ipureintro; rfl
    iexact Hs
  iexact Ho

/-- What a channel brings to the last sums. -/
def sums (c : Dev nD) (ch : Fin 8) : sProp 𝕄 :=
  iprop(pHas c ch (prod X Wt c ch 7) ∗ slotHas c ch 0 (arrived X Wt c ch))

theorem accums_wp (c : Dev nD) (k : F .f32 → P F) (Q : PUnit → sProp 𝕄) : ∀ (l done : List (Fin 8)) (m : F .f32) (f : OutT F),
    (∀ ch ∈ done, colOf f ch = total X Wt c ch) → (done ++ l).Nodup →
    (iprop(bigSepL l (sums X Wt c) ∗ oPts c f)
      ⊢ iprop(((bigSepL l (sums X Wt c) ∗ (∃ f, ⌜∀ ch ∈ done ++ l, colOf f ch = total X Wt c ch⌝ ∗ oPts c f))
          -∗ WP c (k (l.foldl (fun m ch => maxV m (prod X Wt c ch 7) (arrived X Wt c ch)) m)) Q)
        -∗ WP c (accums l m k) Q) : Prop)
  | [], done, m, f, hf, _ => by
    show iprop(bigSepL [] (sums X Wt c) ∗ oPts c f) ⊢ iprop(((bigSepL [] (sums X Wt c)
      ∗ (∃ f, ⌜∀ ch ∈ done ++ [], colOf f ch = total X Wt c ch⌝ ∗ oPts c f)) -∗ WP c (k m) Q) -∗ WP c (k m) Q)
    iintro ⟨HS, Ho⟩ Hk
    iapply Hk
    isplitl [HS]; · iexact HS
    iexists f
    isplitr
    · ipureintro
      rw [List.append_nil]
      exact hf
    iexact Ho
  | ch :: l, done, m, f, hf, hn => by
    have hch : ch ∉ done := fun h => (List.disjoint_of_nodup_append hn) h List.mem_cons_self
    have ih := accums_wp c k Q l (done ++ [ch]) (maxV m (prod X Wt c ch 7) (arrived X Wt c ch)) (putCol f ch (total X Wt c ch))
      (fun x hx => by
        rcases List.mem_append.mp hx with hx | hx
        · rw [colOf_put_ne f (ch := ch) (ch' := x) (fun e => hch (e ▸ hx))]; exact hf x hx
        · rw [List.mem_singleton.mp hx]; exact colOf_put f ch _)
      (by rw [List.append_assoc]; exact hn)
    rw [List.append_assoc] at ih
    show iprop(bigSepL (ch :: l) (sums X Wt c) ∗ oPts c f) ⊢ iprop(((bigSepL (ch :: l) (sums X Wt c)
      ∗ (∃ f, ⌜∀ x ∈ done ++ ch :: l, colOf f x = total X Wt c x⌝ ∗ oPts c f))
        -∗ WP c (k (l.foldl (fun m ch => maxV m (prod X Wt c ch 7) (arrived X Wt c ch)) (maxV m (prod X Wt c ch 7) (arrived X Wt c ch)))) Q)
      -∗ WP c (accum ch m fun m' => accums l m' k) Q)
    rw [bigSepL_cons']
    iintro ⟨⟨Hs, Hl⟩, Ho⟩ Hk
    unfold sums
    icases Hs with ⟨Hp, Hs⟩
    iapply (accum_wp c ch m (prod X Wt c ch 7) (arrived X Wt c ch) f) $$ [Hp Hs Ho]
    · isplitl [Hp]; · iexact Hp
      isplitl [Hs] <;> iassumption
    iintro ⟨Hp, Hs, Ho⟩
    iapply ih $$ [Hl Ho]
    · isplitl [Hl]; · iexact Hl
      iexact Ho
    iintro ⟨Hl, Ho⟩
    iapply Hk
    isplitr [Ho]
    · isplitl [Hp Hs]
      · isplitl [Hp] <;> iassumption
      iexact Hl
    iexact Ho

/-! ## The quantising -/

theorem quant_wp (c : Dev nD) (a : Vec F S8x128 .f32) (ch : Fin 8) (f : OutT F) (k : P F) (Q : PUnit → sProp 𝕄) :
    oPts c f ⊢ iprop((oPts c (putCol f ch (quantV a (colOf f ch))) -∗ WP c k Q) -∗ WP c (quant a ch k) Q) := by
  unfold oPts quant
  iintro Ho Hk
  iapply (wp_load_rect 𝒱₀ (c : Thread nD τ) none Set.univ (m := oM) (r := colR ch) (View.set_slice_subset _ _)) $$ Ho; iintro Ho
  iapply (wp_load_rect 𝒱₀ (c : Thread nD τ) none Set.univ (m := oM) (r := colR ch) (View.set_slice_subset _ _)) $$ Ho; iintro Ho
  iapply (wp_store 𝒱₀ (c : Thread nD τ) none Set.univ (m := oM) (r := colR ch) (Mk := Finset.univ) (View.set_slice_subset _ _)) $$ Ho; iintro Ho
  iapply Hk
  iexact Ho

theorem quants_wp (c : Dev nD) (a : Vec F S8x128 .f32) (k : P F) (Q : PUnit → sProp 𝕄) :
    ∀ (l done : List (Fin 8)) (f : OutT F), (∀ ch ∈ done, colOf f ch = quantV a (total X Wt c ch)) →
      (∀ ch ∈ l, colOf f ch = total X Wt c ch) → (done ++ l).Nodup →
    (oPts c f ⊢ iprop(((∃ f, ⌜∀ ch ∈ done ++ l, colOf f ch = quantV a (total X Wt c ch)⌝ ∗ oPts c f) -∗ WP c k Q)
        -∗ WP c (l.foldr (quant a) k) Q) : Prop)
  | [], done, f, hf, _, _ => by
    show oPts c f ⊢ iprop(((∃ f, ⌜∀ ch ∈ done ++ [], colOf f ch = quantV a (total X Wt c ch)⌝ ∗ oPts c f) -∗ WP c k Q) -∗ WP c k Q)
    iintro Ho Hk
    iapply Hk
    iexists f
    isplitr
    · ipureintro
      rw [List.append_nil]
      exact hf
    iexact Ho
  | ch :: l, done, f, hf, hl, hn => by
    have hd := List.disjoint_of_nodup_append hn
    have hch : ch ∉ done := fun h => hd h List.mem_cons_self
    have hnl : ch ∉ l := (List.nodup_cons.mp (List.Nodup.of_append_right hn)).1
    have ih := quants_wp c a k Q l (done ++ [ch]) (putCol f ch (quantV a (colOf f ch)))
      (fun x hx => by
        rcases List.mem_append.mp hx with hx | hx
        · rw [colOf_put_ne f (ch := ch) (ch' := x) (fun e => hch (e ▸ hx))]; exact hf x hx
        · rw [List.mem_singleton.mp hx, colOf_put, hl ch List.mem_cons_self])
      (fun x hx => by rw [colOf_put_ne f (ch := ch) (ch' := x) (fun e => hnl (e ▸ hx))]; exact hl x (List.mem_cons_of_mem _ hx))
      (by rw [List.append_assoc]; exact hn)
    rw [List.append_assoc] at ih
    show oPts c f ⊢ iprop(((∃ f, ⌜∀ x ∈ done ++ ch :: l, colOf f x = quantV a (total X Wt c x)⌝ ∗ oPts c f) -∗ WP c k Q)
      -∗ WP c (quant a ch (l.foldr (quant a) k)) Q)
    iintro Ho Hk
    iapply (quant_wp c a ch f) $$ Ho
    iintro Ho
    iapply ih $$ Ho
    iintro Ho
    iapply Hk
    iexact Ho

/-- A buffer whose every column block is the quantised sum is the device's block of the result. -/
theorem outC_of_cols (c : Dev nD) (f : OutT F) (h : ∀ ch, colOf f ch = quantV (rowsC X Wt) (total X Wt c ch)) : f = outC X Wt c := by
  funext i
  rw [← colOf_within f i, h]
  rfl

/-! ## The rows of the array of maxima -/

theorem mem_row (j : Dev nD) (i : S8x128.Idx) : i ∈ (ownM j).view.set ↔ (i 0).val = j.val := by
  have e : (ownM j).view.set = (Rect.unit (s := S8x128) (k0_off4 j) S1x128.size (k0_off4_inb j)).set := View.set_slice_whole _ _
  rw [e, Rect.mem_set_unit]
  have h4 := k0_off4_eq j
  constructor
  · intro h
    have h0 := h 0
    rw [h4] at h0
    have ha : j.val ≤ (i 0).val := h0.1
    have hb : (i 0).val < j.val + 1 := h0.2
    omega
  · intro h a
    rw [h4]
    have h1 : (i 1).val < 128 := (i 1).isLt
    fin_cases a
    · exact ⟨by show j.val ≤ (i 0).val; omega, by show (i 0).val < j.val + 1; omega⟩
    · exact ⟨Nat.zero_le _, by show (i 1).val < 0 + 128; omega⟩

theorem mem_ownR (j : Dev nD) (i : S8x128.Idx) : i ∈ (aM.access (ownR j)).set ↔ (i 0).val = j.val := by
  have e : (aM.access (ownR j)).set = (Rect.unit (s := S8x128) (k0_off3 j) S1x128.size (k0_off3_inb j)).set := View.set_slice_whole _ _
  rw [e, Rect.mem_set_unit]
  have h4 := k0_off3_eq j
  constructor
  · intro h
    have h0 := h 0
    rw [h4] at h0
    have ha : j.val ≤ (i 0).val := h0.1
    have hb : (i 0).val < j.val + 1 := h0.2
    omega
  · intro h a
    rw [h4]
    have h1 : (i 1).val < 128 := (i 1).isLt
    fin_cases a
    · exact ⟨by show j.val ≤ (i 0).val; omega, by show (i 0).val < j.val + 1; omega⟩
    · exact ⟨Nat.zero_le _, by show (i 1).val < 0 + 128; omega⟩

theorem ownR_set (j : Dev nD) : (aM.access (ownR j)).set = (ownM j).view.set := by
  ext i; rw [mem_ownR, mem_row]

/-- The row a device writes is its maximum throughout. -/
theorem putRow_eq (c : Dev nD) (f : (cc0_scratch16 : Ref sig .tc).ty.Contents (Elt F)) :
    ∀ i ∈ (ownM c).view.set, (aM.access (ownR c)).write (Elt F) f (rowV (locMax X Wt c)) Finset.univ i = rowsC X Wt i := by
  intro i hi
  have h0 := (mem_row c i).mp hi
  rw [← ownR_set] at hi
  obtain ⟨x, -, rfl⟩ := Finset.mem_map.mp hi
  rw [View.write_emb_of_mem (h := Finset.mem_univ x)]
  show locMax X Wt c = locMax X Wt _
  congr 1
  exact (Fin.ext h0).symm

/-- A row copied between devices is the same row. -/
theorem copyRow_eq (c : Dev nD) (f g : (cc0_scratch16 : Ref sig .tc).ty.Contents (Elt F)) :
    ∀ i ∈ (ownM c).view.set, (ownM c).view.write (Elt F) f ((ownM c).view.read (Elt F) g) Finset.univ i = g i := by
  intro i hi
  obtain ⟨x, -, rfl⟩ := Finset.mem_map.mp hi
  rw [View.write_emb_of_mem (h := Finset.mem_univ x)]
  rfl

theorem row_disjoint (j j' : Dev nD) (h : j ≠ j') : Disjoint (ownM j).view.set (ownM j').view.set := by
  rw [Finset.disjoint_left]
  intro i hi hi'
  exact h (Fin.ext (((mem_row j i).mp hi).symm.trans ((mem_row j' i).mp hi')))
theorem row_cover : Finset.univ.biUnion (fun j : Dev nD => (ownM j).view.set) = (Finset.univ : Finset S8x128.Idx) := by
  ext i
  simp only [Finset.mem_univ, iff_true]
  exact Finset.mem_biUnion.mpr ⟨i 0, Finset.mem_univ _, (mem_row (i 0) i).mpr rfl⟩

/-- The whole array, row by row. -/
def aPts (c : Dev nD) (f : (cc0_scratch16 : Ref sig .tc).ty.Contents (Elt F)) : sProp 𝕄 :=
  (aM.view.loc (c : Thread nD τ)) ↦{fullShare} f

theorem aPts_rows (c : Dev nD) (f : (cc0_scratch16 : Ref sig .tc).ty.Contents (Elt F)) :
    (aPts c f : sProp 𝕄) = bigSep Finset.univ fun j : Dev nD => rowPts c j fullShare f :=
  Ring.pointsTo_blocks (ℓ := aM.view.loc (c : Thread nD τ)) (fun j : Dev nD => (ownM j).view.set) row_disjoint row_cover f

/-- The device's own row and its peers'. -/
theorem dev_split (c : Dev nD) (Φ : Dev nD → sProp 𝕄) :
    bigSep Finset.univ Φ = iprop(Φ c ∗ bigSepL peers (fun k => Φ (peerInv c k))) := by
  rw [bigSep_univ_eq_bigSepL (c :: peers.map (peerInv c)) (by revert c; decide +kernel) (by revert c; decide +kernel), bigSepL_cons',
    bigSepL_map]

theorem dev_split_fwd (c : Dev nD) (Φ : Dev nD → sProp 𝕄) :
    bigSep Finset.univ Φ = iprop(Φ c ∗ bigSepL [1, 2, 3, 4, 5, 6, 7] (fun k => Φ (fwd k c))) := by
  rw [bigSep_univ_eq_bigSepL (c :: [1, 2, 3, 4, 5, 6, 7].map (fun k => fwd k c)) (by revert c; decide +kernel)
    (by revert c; decide +kernel), bigSepL_cons', bigSepL_map]

/-- At the start: the array's rows are the device's own and those it hands on. -/
theorem aPts_start (c : Dev nD) (f : (cc0_scratch16 : Ref sig .tc).ty.Contents (Elt F)) :
    aPts c f ⊢ (iprop(rowAny c c ∗ rowsL c 7) : sProp 𝕄) := by
  rw [aPts_rows, dev_split_fwd c]
  have h : ∀ j, rowPts c j fullShare f ⊢ (rowAny c j : sProp 𝕄) := fun j => by
    unfold rowAny
    iintro H
    iexists f; iexact H
  refine BI.sep_mono (h c) ?_
  refine (bigSepL_mono fun k _ => h (fwd k c)).trans ?_
  unfold rowsL rowsL rowsL rowsL rowsL rowsL rowsL rowsL
  rw [bigSepL_cons', bigSepL_cons', bigSepL_cons', bigSepL_cons', bigSepL_cons', bigSepL_cons', bigSepL_cons']
  exact BIBase.Entails.rfl

end Cert.KernelIdeal.Ring8
-- ==== Proof.Finish.lean ====
/- The last phase: every device's row of maxima is copied to all the others, and the result is quantised; and the whole
   body from what a device starts with to what it ends with. -/
module

public import proofs.«01_k».proof.Proof.Result

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (X : Xs F) (Wt : Ws F) (K : Dev nD × Cx → ℕ)

/-! ## The device's own row -/

theorem putRow_wp (c : Dev nD) (k : P F) (Q : PUnit → sProp 𝕄) :
    rowAny c c ⊢ iprop((rowPts c c fullShare (rowsC X Wt) -∗ WP c k Q) -∗ WP c (putRow c (locMax X Wt c) k) Q) := by
  unfold rowAny putRow rowPts
  iintro ⟨%f, Ha⟩ Hk
  iapply (wp_load_rect 𝒱₀ (c : Thread nD τ) none Set.univ (m := aM) (r := ownR c) (S := (ownM c).view.set)
    (by rw [← ownR_set])) $$ Ha; iintro Ha
  iapply (wp_store 𝒱₀ (c : Thread nD τ) none Set.univ (m := aM) (r := ownR c) (Mk := Finset.univ) (S := (ownM c).view.set)
    (by rw [← ownR_set]; exact Finset.Subset.refl _)) $$ Ha; iintro Ha
  iapply Hk
  iapply (Entails.of_eq (pointsTo_congr (putRow_eq X Wt c f)))
  iexact Ha

/-! ## The rows' copies -/

theorem own_credit (d : Dev nD) : (ownM d).view.dmaCredit = NA := by revert d; decide +kernel
theorem from_credit (d : Dev nD) (i : Fin 7) : (fromM d i).view.dmaCredit = NA := by revert d i; decide +kernel
theorem peer_back (c : Dev nD) (k : Fin 7) : peer c k = back (6 - k.val) c := by revert c k; decide +kernel

def asendI (k : Fin 7) : Item := ⟨.asend k, 0, false⟩

/-- What the `i`-th copy of the row takes. -/
def rowIn (c : Dev nD) (i : Fin 7) : sProp 𝕄 :=
  iprop(rowPts c c (Transfers.shareTok fullShare 7 i) (rowsC X Wt) ∗ rowAny (peer c i) c ∗ dTok c (arecvI i) ∗ dTok c (asendI i))

theorem rowSend_wp (c : Dev nD) (i : Fin 7) (l : List (Fin 7)) (k : P F) (Q : PUnit → sProp 𝕄) :
    iprop((recs X Wt K ∗ Ow c ((i :: l).map arecvI)) ∗ rowIn X Wt c i)
      ⊢ iprop((((recs X Wt K ∗ Ow c (l.map arecvI)) ∗ crd c (.asend i) 0) -∗ WP c k Q) -∗ WP c (rowSend c i k) Q) := by
  unfold Ow rowIn dTok crd rowSend rowAny rowPts
  iintro ⟨⟨#HR, %W, HO⟩, Hs, ⟨%fd, Hd⟩, Htr, Hts⟩ Hk
  iapply (Rounds.wp_send_pointsTo 𝒱₀ ER (Rd X Wt) (c : Thread nD τ) none (c' := ((peer c i : Dev nD) : Thread nD τ))
      (src := ownM c) (dst := ownM c) (sS := .dma (asendS i.succ)) (sem := .dma (arecvS i.succ))
      (q := Transfers.shareTok fullShare 7 i) (fs := rowsC X Wt) (fd := fd)
      (κ₁ := K (c, .asend i)) (κ₂ := K (peer c i, .arecv i)) (r₁ := 0) (r₂ := 0) (d₁ := false) (d₂ := false)
      (mem_duties X Wt c (x := .asend i) Nat.one_pos) (mem_duties X Wt (peer c i) (x := .arecv i) Nat.one_pos)
      0 0 NA (own_credit c) (amount_cell X Wt c (.asend i) _ _)
      (amount_cell X Wt (peer c i) (.arecv i) _ _) (owed c (l.map arecvI)) rfl (W := W)
      (by
        refine BIBase.Entails.trans ?_ (Entails.of_eq (payload_cell X Wt c (.asend i) 0 false).symm)
        exact BIBase.Entails.rfl)
      (by
        refine BIBase.Entails.trans ?_ (Entails.of_eq (payload_cell X Wt (peer c i) (.arecv i) 0 false).symm)
        show _ ⊢ rowPts (peer c i) (peerInv (peer c i) i) fullShare (rowsC X Wt)
        rw [show peerInv (peer c i) i = c from (peerE i).left_inv c]
        unfold rowPts
        exact Entails.of_eq (pointsTo_congr (copyRow_eq c fd (rowsC X Wt))))) $$ [HO Hs Hd Htr Hts]
  · isplitr; · iapply (recs_inv X Wt K c (.asend i)); iexact HR
    isplitr; · iapply (recs_inv X Wt K (peer c i) (.arecv i)); iexact HR
    isplitl [Hs]; · iexact Hs
    isplitl [Hd]; · iexact Hd
    isplitl [HO]; · iexact HO
    isplitl [Hts]; · iexact Hts
    isplitr; · iapply (recs_reached X Wt K c (.asend i)); iexact HR
    isplitl [Htr]; · iexact Htr
    iapply (recs_reached X Wt K (peer c i) (.arecv i)); iexact HR
  iintro ⟨Hc, HO⟩
  iapply Hk
  isplitl [HO]
  · isplitr; · iexact HR
    iexists W; iexact HO
  iexact Hc

theorem rowRecv_wp (c : Dev nD) (i : Fin 7) (k : P F) (Q : PUnit → sProp 𝕄) :
    iprop((recs X Wt K ∗ Ow c []) ∗ (crd c (.arecv i) 0 ∗ at_ c (.arecv i) 0))
      ⊢ iprop((((recs X Wt K ∗ Ow c []) ∗ (at_ c (.arecv i) 1 ∗ rowPts c (peerInv c i) fullShare (rowsC X Wt))) -∗ WP c k Q)
        -∗ WP c (rowRecv c i k) Q) := by
  unfold rowRecv
  iintro ⟨⟨#HR, HO⟩, Hc, Ha⟩ Hk
  iapply (wait_cell X Wt K c (x := .arecv i) (r := 0) (n := 1000) (l := [])
      (fun K' => (wpE_waitDma2_eq 𝒱₀ (c : Thread nD τ) none Set.univ K').trans (by rw [from_credit]; rfl))
      Nat.one_pos (fun e => by cases e) (Nat.le_refl _) (fun i hi => by cases hi)) $$ [Hc HO Ha]
  · isplitr; · iexact HR
    isplitl [Hc]; · iexact Hc
    isplitl [HO] <;> iassumption
  iintro ⟨HO, Ha, -, Hp⟩
  iapply Hk
  isplitl [HO]
  · isplitr; · iexact HR
    iexact HO
  isplitl [Ha]; · iexact Ha
  iapply (Entails.of_eq (show pay X Wt c (.arecv i) 0 false = rowPts c (peerInv c i) fullShare (rowsC X Wt) from rfl))
  iexact Hp

theorem rowSent_wp (c : Dev nD) (i : Fin 7) (k : P F) (Q : PUnit → sProp 𝕄) :
    iprop((recs X Wt K ∗ Ow c []) ∗ (crd c (.asend i) 0 ∗ at_ c (.asend i) 0))
      ⊢ iprop((((recs X Wt K ∗ Ow c []) ∗ (at_ c (.asend i) 1 ∗ rowPts c c (Transfers.shareTok fullShare 7 i) (rowsC X Wt)))
          -∗ WP c k Q)
        -∗ WP c (rowSent c i k) Q) := by
  unfold rowSent
  iintro ⟨⟨#HR, HO⟩, Hc, Ha⟩ Hk
  iapply (wait_cell X Wt K c (x := .asend i) (r := 0) (n := 0) (l := [])
      (fun K' => (wpE_waitDma2_eq 𝒱₀ (c : Thread nD τ) none Set.univ K').trans (by rw [own_credit]; rfl))
      Nat.one_pos (fun e => by cases e) (Nat.le_refl _) (fun i hi => by cases hi)) $$ [Hc HO Ha]
  · isplitr; · iexact HR
    isplitl [Hc]; · iexact Hc
    isplitl [HO] <;> iassumption
  iintro ⟨HO, Ha, -, Hp⟩
  iapply Hk
  isplitl [HO]
  · isplitr; · iexact HR
    iexact HO
  isplitl [Ha]; · iexact Ha
  iapply (Entails.of_eq (show pay X Wt c (.asend i) 0 false = rowPts c c (Transfers.shareTok fullShare 7 i) (rowsC X Wt) from rfl))
  iexact Hp

/-! ## The loops over the peers -/

theorem any_pairwise {I : Type} : ∀ l : List I, l.Pairwise (fun _ _ => True)
  | [] => List.Pairwise.nil
  | _ :: l => List.Pairwise.cons (fun _ _ => trivial) (any_pairwise l)

theorem rowSends_wp (c : Dev nD) (k : P F) (Q : PUnit → sProp 𝕄) :
    iprop((recs X Wt K ∗ Ow c (tailI 0)) ∗ bigSepL peers (rowIn X Wt c))
      ⊢ iprop((((recs X Wt K ∗ Ow c []) ∗ bigSepL peers (fun i => crd c (.asend i) 0)) -∗ WP c k Q)
        -∗ WP c (peers.foldr (rowSend c) k) Q) :=
  foldr_wp (fun _ _ => True) c (rowSend c) (fun l => iprop(recs X Wt K ∗ Ow c (l.map arecvI))) _ _ Q
    (fun i l _ k => rowSend_wp X Wt K c i l k Q) peers (any_pairwise _) k
theorem rowRecvs_wp (c : Dev nD) (k : P F) (Q : PUnit → sProp 𝕄) :
    iprop((recs X Wt K ∗ Ow c []) ∗ bigSepL peers (fun i => iprop(crd c (.arecv i) 0 ∗ at_ c (.arecv i) 0)))
      ⊢ iprop((((recs X Wt K ∗ Ow c []) ∗ bigSepL peers (fun i => iprop(at_ c (.arecv i) 1
            ∗ rowPts c (peerInv c i) fullShare (rowsC X Wt)))) -∗ WP c k Q)
        -∗ WP c (peers.foldr (rowRecv c) k) Q) :=
  foldr_wp (fun _ _ => True) c (rowRecv c) (fun l => iprop(recs X Wt K ∗ Ow c [])) _ _ Q
    (fun i l _ k => rowRecv_wp X Wt K c i k Q) peers (any_pairwise _) k
theorem rowSents_wp (c : Dev nD) (k : P F) (Q : PUnit → sProp 𝕄) :
    iprop((recs X Wt K ∗ Ow c []) ∗ bigSepL peers (fun i => iprop(crd c (.asend i) 0 ∗ at_ c (.asend i) 0)))
      ⊢ iprop((((recs X Wt K ∗ Ow c []) ∗ bigSepL peers (fun i => iprop(at_ c (.asend i) 1
            ∗ rowPts c c (Transfers.shareTok fullShare 7 i) (rowsC X Wt)))) -∗ WP c k Q)
        -∗ WP c (peers.foldr (rowSent c) k) Q) :=
  foldr_wp (fun _ _ => True) c (rowSent c) (fun l => iprop(recs X Wt K ∗ Ow c [])) _ _ Q
    (fun i l _ k => rowSent_wp X Wt K c i k Q) peers (any_pairwise _) k

/-! ## The whole last phase -/

theorem bigSep_peers (Φ : Fin 7 → sProp 𝕄) : bigSep Finset.univ Φ = bigSepL peers Φ :=
  bigSep_univ_eq_bigSepL peers (by decide) (by decide) Φ

/-- The own row is dealt to the seven copies, with a rest; -/
theorem row_deal (c : Dev nD) (f) : rowPts c c fullShare f ⊢ (iprop(rowPts c c (Transfers.shareDrop fullShare 7) f
    ∗ bigSepL peers (fun i => rowPts c c (Transfers.shareTok fullShare 7 i) f)) : sProp 𝕄) := by
  rw [← bigSep_peers]
  exact Transfers.pointsTo_toks_split fullShare 7
/-- and put together again. -/
theorem row_gather (c : Dev nD) (f) : (iprop(rowPts c c (Transfers.shareDrop fullShare 7) f
    ∗ bigSepL peers (fun i => rowPts c c (Transfers.shareTok fullShare 7 i) f)) : sProp 𝕄) ⊢ rowPts c c fullShare f := by
  rw [← bigSep_peers]
  exact Transfers.pointsTo_toks_join fullShare 7

/-- The rows a device has kept are its row at each of its peers. -/
theorem kept_peers (c : Dev nD) : (keptL c 7 : sProp 𝕄) = bigSepL peers (fun i => rowAny (peer c i) c) := by
  unfold keptL keptL keptL keptL keptL keptL keptL keptL peers
  rw [bigSepL_cons', bigSepL_cons', bigSepL_cons', bigSepL_cons', bigSepL_cons', bigSepL_cons', bigSepL_cons',
    peer_back, peer_back, peer_back, peer_back, peer_back, peer_back, peer_back]
  rfl

/-- The whole array, read at once. -/
theorem readAll (f : (cc0_scratch16 : Ref sig .tc).ty.Contents (Elt F)) :
    View.read (Elt F) (aM.access (Rect.unit (s := S8x128) ![0, 0] S8x128.size inb_S8x128_S8x128_0_0)) f = f := by
  funext i
  show f ((Rect.unit (s := S8x128) ![0, 0] S8x128.size inb_S8x128_S8x128_0_0).emb i) = f i
  congr 1
  funext a
  apply Fin.ext
  rw [Rect.emb_apply]
  fin_cases a
  · show 0 + 1 * (i 0).val = (i 0).val
    omega
  · show 0 + 1 * (i 1).val = (i 1).val
    omega

/-- What the last phase takes for each peer. -/
def peerIn (c : Dev nD) (i : Fin 7) : sProp 𝕄 :=
  iprop(dTok c (arecvI i) ∗ dTok c (asendI i) ∗ crd c (.arecv i) 0 ∗ at_ c (.arecv i) 0 ∗ at_ c (.asend i) 0)
/-- What it leaves. -/
def peerOut (c : Dev nD) (i : Fin 7) : sProp 𝕄 := iprop(at_ c (.arecv i) 1 ∗ at_ c (.asend i) 1)

theorem finish_wp (c : Dev nD) (f : OutT F) (hf : ∀ ch, colOf f ch = total X Wt c ch) (Q : PUnit → sProp 𝕄) :
    iprop(recs X Wt K ∗ Ow c (tailI 0) ∗ rowAny c c ∗ keptL c 7 ∗ bigSepL peers (peerIn c) ∗ oPts c f)
      ⊢ iprop(((Ow c [] ∗ aPts c (rowsC X Wt) ∗ bigSepL peers (peerOut c) ∗ oPts c (outC X Wt c)) -∗ WP c (.ret ⟨⟩) Q)
        -∗ WP c (finish c (locMax X Wt c)) Q) := by
  have e₁ : bigSepL peers (peerIn (F := F) c) = iprop(bigSepL peers (fun i => dTok c (arecvI i)) ∗ bigSepL peers (fun i => dTok c (asendI i))
      ∗ bigSepL peers (fun i => crd c (.arecv i) 0) ∗ bigSepL peers (fun i => at_ c (.arecv i) 0)
      ∗ bigSepL peers (fun i => at_ c (.asend i) 0)) := by
    unfold peerIn
    simp only [bigSepL_sep]
  have e₂ : bigSepL peers (peerOut (F := F) c) = iprop(bigSepL peers (fun i => at_ c (.arecv i) 1)
      ∗ bigSepL peers (fun i => at_ c (.asend i) 1)) := by
    unfold peerOut
    simp only [bigSepL_sep]
  have e₃ : bigSepL peers (rowIn X Wt c) = iprop(bigSepL peers (fun i => rowPts c c (Transfers.shareTok fullShare 7 i) (rowsC X Wt))
      ∗ bigSepL peers (fun i => rowAny (peer c i) c) ∗ bigSepL peers (fun i => dTok c (arecvI i)) ∗ bigSepL peers (fun i => dTok c (asendI i))) := by
    unfold rowIn
    simp only [bigSepL_sep]
  rw [e₁, kept_peers]
  unfold finish
  iintro ⟨#HR, HO, Hown, Hkept, ⟨Htr, Hts, Hcr, Har, Has⟩, Ho⟩ Hk
  iapply (putRow_wp X Wt c) $$ Hown
  iintro Hown
  ihave Hown := (row_deal c (rowsC X Wt)) $$ Hown
  icases Hown with ⟨Hrest, Htoks⟩
  iapply (rowSends_wp X Wt K c) $$ [HO Htoks Hkept Htr Hts]
  · isplitl [HO]
    · isplitr; · iexact HR
      iexact HO
    iapply (Entails.of_eq e₃.symm)
    isplitl [Htoks]; · iexact Htoks
    isplitl [Hkept]; · iexact Hkept
    isplitl [Htr] <;> iassumption
  iintro ⟨⟨-, HO⟩, Hcs⟩
  iapply (rowRecvs_wp X Wt K c) $$ [HO Hcr Har]
  · isplitl [HO]
    · isplitr; · iexact HR
      iexact HO
    iapply (Entails.of_eq (bigSepL_sep peers (fun i => crd c (.arecv i) 0) (fun i => at_ c (.arecv i) 0)).symm)
    isplitl [Hcr] <;> iassumption
  iintro ⟨⟨-, HO⟩, Hin⟩
  ihave Hin := (Entails.of_eq (bigSepL_sep peers (fun i => at_ c (.arecv i) 1) (fun i => rowPts c (peerInv c i) fullShare (rowsC X Wt)))) $$ Hin
  icases Hin with ⟨Har, Hrows⟩
  iapply (rowSents_wp X Wt K c) $$ [HO Hcs Has]
  · isplitl [HO]
    · isplitr; · iexact HR
      iexact HO
    iapply (Entails.of_eq (bigSepL_sep peers (fun i => crd c (.asend i) 0) (fun i => at_ c (.asend i) 0)).symm)
    isplitl [Hcs] <;> iassumption
  iintro ⟨⟨-, HO⟩, Hin⟩
  ihave Hin := (Entails.of_eq (bigSepL_sep peers (fun i => at_ c (.asend i) 1)
    (fun i => rowPts c c (Transfers.shareTok fullShare 7 i) (rowsC X Wt)))) $$ Hin
  icases Hin with ⟨Has, Htoks⟩
  ihave Hown := (row_gather c (rowsC X Wt)) $$ [Hrest Htoks]
  · isplitl [Hrest] <;> iassumption
  ihave Ha := (Entails.of_eq ((aPts_rows c (rowsC X Wt)).trans (dev_split c _)).symm) $$ [Hown Hrows]
  · isplitl [Hown]; · iexact Hown
    iexact Hrows
  unfold aPts
  iapply (wp_load_rect 𝒱₀ (c : Thread nD τ) none Set.univ (m := aM)
    (r := Rect.unit (s := S8x128) ![0, 0] S8x128.size inb_S8x128_S8x128_0_0) (S := Finset.univ) (Finset.subset_univ _)) $$ Ha; iintro Ha
  rw [readAll]
  iapply (quants_wp X Wt c (rowsC X Wt) (.ret ⟨⟩) Q columns [] f (fun ch h => by cases h) (fun ch _ => hf ch) (by decide)) $$ Ho
  iintro ⟨%g, %hg, Ho⟩
  have hg' : g = outC X Wt c := outC_of_cols X Wt c g fun ch => hg ch (by revert ch; decide)
  subst hg'
  iapply Hk
  isplitl [HO]; · iexact HO
  isplitl [Ha]; · iexact Ha
  isplitl [Har Has]
  · iapply (Entails.of_eq e₂.symm)
    isplitl [Har] <;> iassumption
  iexact Ho

/-! ## The body -/

/-- The rows travel on channel 0 alone. -/
theorem on_zero (A : sProp 𝕄) : bigSepL order (fun ch => (if ch = 0 then A else iprop(emp))) = A := by
  unfold order
  simp only [bigSepL_two, bigSepL_singleton, if_pos, reduceIte, show ¬((4 : Fin 8) = 0) by decide, show ¬((1 : Fin 8) = 0) by decide,
    show ¬((5 : Fin 8) = 0) by decide, show ¬((2 : Fin 8) = 0) by decide, show ¬((6 : Fin 8) = 0) by decide,
    show ¬((3 : Fin 8) = 0) by decide, show ¬((7 : Fin 8) = 0) by decide]
  refine (congrArg (fun Z => iprop(A ∗ Z)) ?_).trans (sep_emp_eq A)
  exact (emp_sep_eq _).trans ((emp_sep_eq _).trans ((emp_sep_eq _).trans ((emp_sep_eq _).trans ((emp_sep_eq _).trans (emp_sep_eq _)))))

/-- What a channel leaves when all is done. -/
def chEnd (c : Dev nD) (ch : Fin 8) : sProp 𝕄 := iprop(over c ch ∗ slotAny c ch 0 ∗ slotAny c ch 1 ∗ pAny c ch)

theorem device_wp (c : Dev nD) (k : Dev nD → P F) (Q : PUnit → sProp 𝕄) : WP c (.op .deviceId k) Q = WP c (k c) Q :=
  wp_deviceId 𝒱₀ (c : Thread nD τ) none Set.univ

theorem body_wp (c : Dev nD) (f : OutT F) (Q : PUnit → sProp 𝕄) :
    iprop(recs X Wt K ∗ opers X Wt c ∗ Ow c allI ∗ barIn c ∗ bigSepL order (chIn c) ∗ rowAny c c ∗ bigSepL peers (peerIn c) ∗ oPts c f)
      ⊢ iprop(((opers X Wt c ∗ Ow c [] ∗ at_ c .bar 1 ∗ bigSepL order (chEnd c) ∗ aPts c (rowsC X Wt) ∗ bigSepL peers (peerOut c)
            ∗ oPts c (outC X Wt c)) -∗ WP c (.ret ⟨⟩) Q)
        -∗ WP c body Q) := by
  have e₁ : bigSepL order (chOut X Wt c) = iprop(bigSepL order (over c) ∗ bigSepL order (fun ch => slotAny c ch 1)
      ∗ bigSepL order (sums X Wt c) ∗ keptL c 7) := by
    refine Eq.trans ?_ (congrArg (fun Z => iprop(bigSepL order (over c) ∗ bigSepL order (fun ch => slotAny c ch 1)
      ∗ bigSepL order (sums X Wt c) ∗ Z)) (on_zero (keptL c 7)))
    rw [← bigSepL_sep, ← bigSepL_sep, ← bigSepL_sep]
    congr 1
    funext ch
    unfold chOut sums keptIf
    refine BI.equiv_iff.mp ⟨?_, ?_⟩
    · show iprop(over c ch ∗ slotAny c ch 1 ∗ slotHas c ch 0 (arrived X Wt c ch) ∗ pHas c ch (prod X Wt c ch 7)
        ∗ (if ch = 0 then keptL c 7 else iprop(emp))) ⊢ iprop(over c ch ∗ slotAny c ch 1
          ∗ (pHas c ch (prod X Wt c ch 7) ∗ slotHas c ch 0 (arrived X Wt c ch)) ∗ (if ch = 0 then keptL c 7 else iprop(emp)))
      iintro ⟨H1, H2, H3, H4, H5⟩
      isplitl [H1]; · iexact H1
      isplitl [H2]; · iexact H2
      isplitl [H3 H4]
      · isplitl [H4] <;> iassumption
      iexact H5
    · show iprop(over c ch ∗ slotAny c ch 1
          ∗ (pHas c ch (prod X Wt c ch 7) ∗ slotHas c ch 0 (arrived X Wt c ch)) ∗ (if ch = 0 then keptL c 7 else iprop(emp)))
        ⊢ iprop(over c ch ∗ slotAny c ch 1 ∗ slotHas c ch 0 (arrived X Wt c ch) ∗ pHas c ch (prod X Wt c ch 7)
        ∗ (if ch = 0 then keptL c 7 else iprop(emp)))
      iintro ⟨H1, H2, ⟨H3, H4⟩, H5⟩
      isplitl [H1]; · iexact H1
      isplitl [H2]; · iexact H2
      isplitl [H4]; · iexact H4
      isplitl [H3] <;> iassumption
  have e₂ : bigSepL order (chEnd (F := F) c) = iprop(bigSepL order (over c) ∗ bigSepL order (fun ch => slotAny c ch 0)
      ∗ bigSepL order (fun ch => slotAny c ch 1) ∗ bigSepL order (fun ch => pAny c ch)) := by
    unfold chEnd
    rw [bigSepL_sep, bigSepL_sep, bigSepL_sep]
  have e₃ : bigSepL order (sums X Wt c) = iprop(bigSepL order (fun ch => pHas c ch (prod X Wt c ch 7))
      ∗ bigSepL order (fun ch => slotHas c ch 0 (arrived X Wt c ch))) := by
    unfold sums
    rw [bigSepL_sep]
  unfold body
  rw [device_wp]
  iintro ⟨#HR, Hop, HO, Hbar, Hch, Hown, Hpeer, Ho⟩ Hk
  iapply (ring_wp X Wt K c) $$ [Hop HO Hbar Hch]
  · isplitr; · iexact HR
    isplitl [Hop]; · iexact Hop
    isplitl [HO]; · iexact HO
    isplitl [Hbar]; · iexact Hbar
    iexact Hch
  iintro ⟨Hop, HO, Ha, Hch⟩
  ihave Hch := (Entails.of_eq e₁) $$ Hch
  icases Hch with ⟨Hov, Hs1, Hsum, Hkept⟩
  iapply (accums_wp X Wt c (finish c) Q order [] (Scalar.ofBits .f32 0x00000000#32) f (fun ch h => by cases h) (by decide)) $$ [Hsum Ho]
  · isplitl [Hsum] <;> iassumption
  iintro ⟨Hsum, %g, %hg, Ho⟩
  iapply (finish_wp X Wt K c g (fun ch => hg ch (by revert ch; decide)) Q) $$ [HO Hown Hkept Hpeer Ho]
  · isplitr; · iexact HR
    isplitl [HO]; · iexact HO
    isplitl [Hown]; · iexact Hown
    isplitl [Hkept]; · iexact Hkept
    isplitl [Hpeer] <;> iassumption
  iintro ⟨HO, HaP, Hpeer, Ho⟩
  ihave Hsum := (Entails.of_eq e₃) $$ Hsum
  icases Hsum with ⟨Hp, Hs0⟩
  iapply Hk
  isplitl [Hop]; · iexact Hop
  isplitl [HO]; · iexact HO
  isplitl [Ha]; · iexact Ha
  isplitl [Hov Hs1 Hp Hs0]
  · iapply (Entails.of_eq e₂.symm)
    isplitl [Hov]; · iexact Hov
    isplitl [Hs0]
    · iapply (bigSepL_mono fun ch _ => slotHas_any c ch 0 _)
      iexact Hs0
    isplitl [Hs1]; · iexact Hs1
    iapply (bigSepL_mono fun ch _ => pHas_any c ch _)
    iexact Hp
  isplitl [HaP]; · iexact HaP
  isplitl [Hpeer] <;> iassumption

end Cert.KernelIdeal.Ring8
-- ==== Proof.Start.lean ====
/- What a device is dealt when it starts and what it gives back: the tables of payments, waits and cells, its buffers cut
   into slots and rows, and everything sorted by channel and peer. -/
module

public import proofs.«01_k».proof.Proof.Finish
public import proofs.«01_k».proof.Proof.Gen.KernelIdeal.Launch
public import Idealize.ShloMosaic.Lib.Pipeline.TalkSched

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## Tables -/

/-- The payments a device makes on channel `ch`, its own departures included, -/
def chTok (ch : Fin 8) : List Item :=
  [recvI ch 0, sendI ch 0, credI ch 1, recvI ch 1, sendI ch 1, credI ch 2, recvI ch 2, sendI ch 2, credI ch 3, recvI ch 3, sendI ch 3,
    credI ch 4, recvI ch 4, sendI ch 4, credI ch 5, recvI ch 5, sendI ch 5, credI ch 6, recvI ch 6, sendI ch 6]
/-- and all its payments. -/
def tokL : List Item :=
  [⟨.bar, 0, true⟩, ⟨.bar, 0, false⟩] ++ (order.flatMap chTok ++ peers.flatMap fun k => [arecvI k, asendI k])

/-- The payments by others that a device waits for. -/
def chCrd (ch : Fin 8) : List Item :=
  [recvI ch 0, credI ch 1, recvI ch 1, credI ch 2, recvI ch 2, credI ch 3, recvI ch 3, credI ch 4, recvI ch 4, credI ch 5, recvI ch 5,
    credI ch 6, recvI ch 6]
def crdL : List Item :=
  [⟨.bar, 0, true⟩, ⟨.bar, 0, false⟩] ++ (order.flatMap chCrd ++ peers.flatMap fun k => [arecvI k])

/-- A device's cells. -/
def chCx (ch : Fin 8) : List Cx := [.send ch 0, .send ch 1, .recv ch 0, .recv ch 1, .cred ch]
def cxL : List Cx := [.bar] ++ (order.flatMap chCx ++ peers.flatMap fun k => [.arecv k, .asend k])

theorem tokL_nodup : tokL.Nodup := by decide +kernel
theorem allI_nodup : allI.Nodup := by decide +kernel
theorem allI_perm : allI.Perm crdL := by decide +kernel
theorem cxL_univ : (Finset.univ : Finset Cx) = cxL.toFinset := by decide +kernel
theorem cxL_nodup : cxL.Nodup := by decide +kernel

theorem bigSepL_flatMap {I J : Type} (l : List I) (g : I → List J) (A : J → sProp 𝕄) :
    bigSepL (l.flatMap g) A = bigSepL l fun i => bigSepL (g i) A := by
  induction l with
  | nil => rfl
  | cons i l ih => rw [List.flatMap_cons, bigSepL_append, ih, bigSepL_cons']

/-! ## Buffers -/

abbrev wholeAny (c : Dev nD) (b : Ref sig .tc) : sProp 𝕄 :=
  iprop(∃ f : Buf (Elt F) ((c : Thread nD τ).loc b), ((c : Thread nD τ).loc b) ↦{fullShare} f)

theorem buf_set : ∀ ch, (buf ch).view.set = Finset.univ
  | 0 => View.set_whole _ | 1 => View.set_whole _ | 2 => View.set_whole _ | 3 => View.set_whole _
  | 4 => View.set_whole _ | 5 => View.set_whole _ | 6 => View.set_whole _ | 7 => View.set_whole _
theorem pbuf_univ : ∀ ch, (pbuf ch).view.set = Finset.univ
  | 0 => View.set_whole _ | 1 => View.set_whole _ | 2 => View.set_whole _ | 3 => View.set_whole _
  | 4 => View.set_whole _ | 5 => View.set_whole _ | 6 => View.set_whole _ | 7 => View.set_whole _

theorem mem_slotR (p : Fin 2) (i : S2x512x1024.Idx) : i ∈ (slotR p).set ↔ (i 0).val = p.val := by
  rw [Rect.mem_set_unit]
  constructor
  · intro h
    have ha : p.val ≤ (i 0).val := (h 0).1
    have hb : (i 0).val < p.val + 1 := (h 0).2
    omega
  · intro h a
    have h1 : (i 1).val < 512 := (i 1).isLt
    have h2 : (i 2).val < 1024 := (i 2).isLt
    fin_cases a
    · exact ⟨h.symm.le, h.trans_lt (Nat.lt_succ_self _)⟩
    · exact ⟨Nat.zero_le _, by show (i 1).val < 0 + 512; omega⟩
    · exact ⟨Nat.zero_le _, by show (i 2).val < 0 + 1024; omega⟩

theorem slot_map (ch : Fin 8) (p : Fin 2) : (slot ch p).view.set = (slotR p).set.map (buf ch).view.emb := by
  rw [slot_set]; exact View.set_slice (v := (buf ch).view) _

theorem slot_disjoint (ch : Fin 8) (p q : Fin 2) (h : p ≠ q) : Disjoint (slot ch p).view.set (slot ch q).view.set := by
  rw [slot_map, slot_map]
  refine (Finset.disjoint_map _).mpr ?_
  rw [Finset.disjoint_left]
  intro i hi hi'
  exact h (Fin.ext (((mem_slotR p i).mp hi).symm.trans ((mem_slotR q i).mp hi')))

theorem slot_cover (ch : Fin 8) : Finset.univ.biUnion (fun p : Fin 2 => (slot ch p).view.set) = (Finset.univ : Finset (buf ch).view.ref.ty.shape.Idx) := by
  ext i
  simp only [Finset.mem_univ, iff_true]
  have hi : i ∈ (buf ch).view.set := by rw [buf_set]; exact Finset.mem_univ _
  obtain ⟨x, -, rfl⟩ := Finset.mem_map.mp hi
  have h2 : (x 0).val < 2 := (x 0).isLt
  refine Finset.mem_biUnion.mpr ⟨(⟨(x 0).val, h2⟩ : Fin 2), Finset.mem_univ _, ?_⟩
  have e := slot_map ch ⟨(x 0).val, h2⟩
  exact e ▸ Finset.mem_map.mpr ⟨x, (mem_slotR ⟨(x 0).val, h2⟩ x).mpr rfl, rfl⟩

theorem fin2_split (Φ : Fin 2 → sProp 𝕄) : bigSep Finset.univ Φ = iprop(Φ 0 ∗ Φ 1) :=
  bigSep_univ_eq_bigSepL [0, 1] (by decide) (by decide) Φ

theorem slots_split (c : Dev nD) (ch : Fin 8) : wholeAny c (buf ch).view.ref ⊢ (iprop(slotAny c ch 0 ∗ slotAny c ch 1) : sProp 𝕄) := by
  iintro ⟨%f, H⟩
  ihave H := (Entails.of_eq ((Ring.pointsTo_blocks (ℓ := (buf ch).view.loc (c : Thread nD τ)) (fun p : Fin 2 => (slot ch p).view.set)
    (slot_disjoint ch) (slot_cover ch) f).trans (fin2_split _))) $$ H
  icases H with ⟨H0, H1⟩
  unfold slotAny slotPts
  isplitl [H0]
  · iexists f; iexact H0
  · iexists f; iexact H1

theorem slots_join (c : Dev nD) (ch : Fin 8) : iprop(slotAny c ch 0 ∗ slotAny c ch 1) ⊢ (wholeAny c (buf ch).view.ref : sProp 𝕄) := by
  unfold slotAny slotPts
  iintro ⟨⟨%f, H0⟩, ⟨%g, H1⟩⟩
  iapply (Ring.pointsTo_blocks_join_exists (ℓ := (buf ch).view.loc (c : Thread nD τ)) (fun p : Fin 2 => (slot ch p).view.set)
    (slot_disjoint ch) (slot_cover ch) f)
  iapply (Entails.of_eq (fin2_split _).symm)
  isplitl [H0]
  · iexists f; iexact H0
  · iexists g; iexact H1

theorem pbuf_any (c : Dev nD) (ch : Fin 8) : (wholeAny c (pbuf ch).view.ref : sProp 𝕄) = pAny c ch := by
  unfold pAny
  rw [pbuf_univ]

def bufL : List (Ref sig .tc) :=
  order.map (fun ch => (buf ch).view.ref) ++ (order.map (fun ch => (pbuf ch).view.ref) ++ [cc0_scratch16])
theorem bufL_eq : (Finset.univ.filter fun b : Ref sig .tc => b.isScoped) \ Finset.univ.image (Pipeline.stageRef spec0) = bufL.toFinset := by
  decide +kernel
theorem bufL_nodup : bufL.Nodup := by decide +kernel

/-- The buffers of the channels: each one's two slots and its own buffer, and the array of maxima. -/
theorem scoped_eq (c : Dev nD) :
    (Pipeline.scopedRest (Ix := ℕ) (Name := ℕ) (U := UU) (Lvl := ℕ) (Val := Elt F) spec0 c : sProp 𝕄)
      = iprop(bigSepL order (fun ch => wholeAny c (buf ch).view.ref) ∗ bigSepL order (fun ch => pAny c ch) ∗ ∃ f, aPts c f) := by
  refine (Pipeline.scopedRest_eq_of_list spec0 c bufL bufL_eq bufL_nodup).trans ?_
  unfold bufL
  rw [bigSepL_append, bigSepL_append, bigSepL_map, bigSepL_map]
  exact congrArg (fun Z => iprop(bigSepL order (fun ch => wholeAny c (buf ch).view.ref) ∗ Z ∗ ∃ f, aPts c f))
    (congrArg (bigSepL order) (funext fun ch => pbuf_any c ch))

/-! ## Sorting what a device starts with -/

theorem chTok_eq (c : Dev nD) (ch : Fin 8) : (bigSepL (chTok ch) (dTok c) : sProp 𝕄)
    = iprop(dTok c (recvI ch 0) ∗ dTok c (sendI ch 0)
      ∗ dTok c (credI ch 1) ∗ dTok c (recvI ch 1) ∗ dTok c (sendI ch 1) ∗ dTok c (credI ch 2) ∗ dTok c (recvI ch 2) ∗ dTok c (sendI ch 2)
      ∗ dTok c (credI ch 3) ∗ dTok c (recvI ch 3) ∗ dTok c (sendI ch 3) ∗ dTok c (credI ch 4) ∗ dTok c (recvI ch 4) ∗ dTok c (sendI ch 4)
      ∗ dTok c (credI ch 5) ∗ dTok c (recvI ch 5) ∗ dTok c (sendI ch 5) ∗ dTok c (credI ch 6) ∗ dTok c (recvI ch 6) ∗ dTok c (sendI ch 6)) := rfl

/-- A wait for a payment. -/
abbrev crdI (c : Dev nD) (i : Item) : sProp 𝕄 := crd c i.x i.r

theorem chCrd_eq (c : Dev nD) (ch : Fin 8) : (bigSepL (chCrd ch) (crdI c) : sProp 𝕄)
    = iprop(crd c (.recv ch 0) 0
      ∗ crd c (.cred ch) (1 - 1) ∗ crd c (.recv ch (par 1)) (1 / 2) ∗ crd c (.cred ch) (2 - 1) ∗ crd c (.recv ch (par 2)) (2 / 2)
      ∗ crd c (.cred ch) (3 - 1) ∗ crd c (.recv ch (par 3)) (3 / 2) ∗ crd c (.cred ch) (4 - 1) ∗ crd c (.recv ch (par 4)) (4 / 2)
      ∗ crd c (.cred ch) (5 - 1) ∗ crd c (.recv ch (par 5)) (5 / 2) ∗ crd c (.cred ch) (6 - 1) ∗ crd c (.recv ch (par 6)) (6 / 2)) := rfl

theorem ch_in (c : Dev nD) (ch : Fin 8) :
    iprop((slotAny c ch 0 ∗ slotAny c ch 1) ∗ pAny c ch ∗ bigSepL (chCx ch) (fun x => at_ c x 0) ∗ rows0 c ch
        ∗ bigSepL (chTok ch) (dTok c) ∗ bigSepL (chCrd ch) (crdI c)) ⊢ (chIn c ch : sProp 𝕄) := by
  rw [chTok_eq, chCrd_eq]
  unfold chIn bundle0 bundle
  iintro ⟨⟨Hs, Hs'⟩, Hp, Ha, Hr, ⟨R0, S0, C1, R1, S1, C2, R2, S2, C3, R3, S3, C4, R4, S4, C5, R5, S5, C6, R6, S6⟩,
    ⟨D0, E1, D1, E2, D2, E3, D3, E4, D4, E5, D5, E6, D6⟩⟩
  isplitl [Hs]; · iexact Hs
  isplitl [Hs']; · iexact Hs'
  isplitl [Hp]; · iexact Hp
  isplitl [Ha]; · iapply (Entails.of_eq (show bigSepL (chCx ch) (fun x => at_ c x 0) = at0 c ch from rfl)); iexact Ha
  isplitl [Hr]; · iexact Hr
  isplitl [R0 S0 D0]
  · isplitl [R0]; · iexact R0
    isplitl [S0] <;> iassumption
  isplitl [C1 R1 S1 E1 D1]
  · isplitl [C1]; · iexact C1
    isplitl [R1]; · iexact R1
    isplitl [S1]; · iexact S1
    isplitl [E1]; · iexact E1
    iexact D1
  isplitl [C2 R2 S2 E2 D2]
  · isplitl [C2]; · iexact C2
    isplitl [R2]; · iexact R2
    isplitl [S2]; · iexact S2
    isplitl [E2]; · iexact E2
    iexact D2
  isplitl [C3 R3 S3 E3 D3]
  · isplitl [C3]; · iexact C3
    isplitl [R3]; · iexact R3
    isplitl [S3]; · iexact S3
    isplitl [E3]; · iexact E3
    iexact D3
  isplitl [C4 R4 S4 E4 D4]
  · isplitl [C4]; · iexact C4
    isplitl [R4]; · iexact R4
    isplitl [S4]; · iexact S4
    isplitl [E4]; · iexact E4
    iexact D4
  isplitl [C5 R5 S5 E5 D5]
  · isplitl [C5]; · iexact C5
    isplitl [R5]; · iexact R5
    isplitl [S5]; · iexact S5
    isplitl [E5]; · iexact E5
    iexact D5
  · isplitl [C6]; · iexact C6
    isplitl [R6]; · iexact R6
    isplitl [S6]; · iexact S6
    isplitl [E6]; · iexact E6
    iexact D6

theorem peer_in (c : Dev nD) (k : Fin 7) :
    iprop(bigSepL [Cx.arecv k, Cx.asend k] (fun x => at_ c x 0) ∗ bigSepL [arecvI k, asendI k] (dTok c) ∗ bigSepL [arecvI k] (crdI c))
      ⊢ (peerIn c k : sProp 𝕄) := by
  unfold peerIn
  show iprop((at_ c (.arecv k) 0 ∗ at_ c (.asend k) 0) ∗ (dTok c (arecvI k) ∗ dTok c (asendI k)) ∗ crd c (.arecv k) 0) ⊢ _
  iintro ⟨⟨H1, H2⟩, ⟨H3, H4⟩, H5⟩
  isplitl [H3]; · iexact H3
  isplitl [H4]; · iexact H4
  isplitl [H5]; · iexact H5
  isplitl [H1] <;> iassumption

/-- All that a device's protocol starts from, sorted. -/
theorem start_sort (c : Dev nD) (f : (cc0_scratch16 : Ref sig .tc).ty.Contents (Elt F)) :
    iprop(bigSepL order (fun ch => wholeAny c (buf ch).view.ref) ∗ bigSepL order (fun ch => pAny c ch) ∗ aPts c f
        ∗ bigSepL cxL (fun x => at_ c x 0) ∗ bigSepL tokL (dTok c) ∗ bigSepL crdL (crdI c))
      ⊢ (iprop(barIn c ∗ bigSepL order (chIn c) ∗ rowAny c c ∗ bigSepL peers (peerIn c)) : sProp 𝕄) := by
  have e₁ : (bigSepL cxL (fun x => at_ c x 0) : sProp 𝕄) = iprop(at_ c .bar 0 ∗ bigSepL order (fun ch => bigSepL (chCx ch) (fun x => at_ c x 0))
      ∗ bigSepL peers (fun k => bigSepL [Cx.arecv k, Cx.asend k] (fun x => at_ c x 0))) := by
    unfold cxL; rw [bigSepL_append, bigSepL_append, bigSepL_flatMap, bigSepL_flatMap]; rfl
  have e₂ : (bigSepL tokL (dTok c) : sProp 𝕄) = iprop((dTok c ⟨.bar, 0, true⟩ ∗ dTok c ⟨.bar, 0, false⟩)
      ∗ bigSepL order (fun ch => bigSepL (chTok ch) (dTok c)) ∗ bigSepL peers (fun k => bigSepL [arecvI k, asendI k] (dTok c))) := by
    unfold tokL; rw [bigSepL_append, bigSepL_append, bigSepL_flatMap, bigSepL_flatMap]; rfl
  have e₃ : (bigSepL crdL (crdI c) : sProp 𝕄) = iprop((crd c .bar 0 ∗ crd c .bar 0)
      ∗ bigSepL order (fun ch => bigSepL (chCrd ch) (crdI c)) ∗ bigSepL peers (fun k => bigSepL [arecvI k] (crdI c))) := by
    unfold crdL; rw [bigSepL_append, bigSepL_append, bigSepL_flatMap, bigSepL_flatMap]; rfl
  rw [e₁, e₂, e₃]
  have e₄ := on_zero (rowsL (F := F) c 7)
  have h₁ : iprop(bigSepL order (fun ch => wholeAny c (buf ch).view.ref) ∗ bigSepL order (fun ch => pAny c ch)
      ∗ bigSepL order (fun ch => bigSepL (chCx ch) (fun x => at_ c x 0)) ∗ bigSepL order (rows0 c)
      ∗ bigSepL order (fun ch => bigSepL (chTok ch) (dTok c)) ∗ bigSepL order (fun ch => bigSepL (chCrd ch) (crdI c)))
      ⊢ (bigSepL order (chIn c) : sProp 𝕄) := by
    rw [← bigSepL_sep, ← bigSepL_sep, ← bigSepL_sep, ← bigSepL_sep, ← bigSepL_sep]
    exact bigSepL_mono fun ch _ => (sep_mono_left (slots_split c ch)).trans (ch_in c ch)
  have h₂ : iprop(bigSepL peers (fun k => bigSepL [Cx.arecv k, Cx.asend k] (fun x => at_ c x 0))
      ∗ bigSepL peers (fun k => bigSepL [arecvI k, asendI k] (dTok c)) ∗ bigSepL peers (fun k => bigSepL [arecvI k] (crdI c)))
      ⊢ (bigSepL peers (peerIn c) : sProp 𝕄) := by
    rw [← bigSepL_sep, ← bigSepL_sep]
    exact bigSepL_mono fun k _ => peer_in c k
  unfold barIn
  iintro ⟨Hb, Hp, Ha, ⟨A0, A1, A2⟩, ⟨⟨T0, T0'⟩, T1, T2⟩, ⟨D0, D0'⟩, D1, D2⟩
  ihave Ha := (aPts_start c f) $$ Ha
  icases Ha with ⟨Hown, Hrows⟩
  isplitl [T0 T0' D0 D0' A0]
  · isplitl [T0]; · iexact T0
    isplitl [T0']; · iexact T0'
    isplitl [D0]; · iexact D0
    isplitl [D0']; · iexact D0'
    iexact A0
  isplitl [Hb Hp A1 Hrows T1 D1]
  · iapply h₁
    isplitl [Hb]; · iexact Hb
    isplitl [Hp]; · iexact Hp
    isplitl [A1]; · iexact A1
    isplitl [Hrows]; · iapply (Entails.of_eq e₄.symm); iexact Hrows
    isplitl [T1]; · iexact T1
    iexact D1
  isplitl [Hown]; · iexact Hown
  iapply h₂
  isplitl [A2]; · iexact A2
  isplitl [T2]; · iexact T2
  iexact D2

/-! ## The credits dealt at launch -/

theorem crd_of_owed (c : Dev nD) (l : List Item) :
    (Pipeline.launchCred (fun d => owed d l) c : sProp 𝕄) ⊢ bigSepL l (crdI c) := by
  induction l with
  | nil =>
    show (Pipeline.launchCred (fun _ => 0) c : sProp 𝕄) ⊢ bigSepL [] (crdI c)
    rw [Pipeline.launchCred_zero, bigSepL_nil]
    exact BIBase.Entails.rfl
  | cons i l ih =>
    show (Pipeline.launchCred (fun d => owed d l + i.tally d) c : sProp 𝕄) ⊢ bigSepL (i :: l) (crdI c)
    rw [Pipeline.launchCred_add, bigSepL_cons']
    iintro ⟨H1, H2⟩
    isplitl [H2]
    · iapply (show (Pipeline.launchCred (fun d => i.tally d) c : sProp 𝕄) ⊢ crdI c i from
        Pipeline.launchCred_tallyAt (semOf i.x) i.tgt i.tgt.symm i.tgt.apply_symm_apply i.tgt.symm_apply_apply i.r (amt i.x) c)
      iexact H2
    · iapply ih; iexact H1

theorem crds_dealt (c : Dev nD) : (Pipeline.launchCred (fun d => owed d allI) c : sProp 𝕄) ⊢ bigSepL crdL (crdI c) :=
  (crd_of_owed c allI).trans (Entails.of_eq (TalkSites.bigSepL_perm allI_perm allI_nodup (crdI c)))

/-! ## What a device gives back -/

variable (X : Xs F) (Wt : Ws F) (K : Dev nD × Cx → ℕ)

theorem close_list (c : Dev nD) (l : List Cx) :
    iprop(recs X Wt K ∗ bigSepL l (fun x => at_ c x (rounds x))) ⊢ iprop(|={Set.univ}=> bigSepL l (fun x => semVal (cell c x) 0)) := by
  induction l with
  | nil =>
    show iprop(recs X Wt K ∗ bigSepL [] (fun x => at_ c x (rounds x))) ⊢ iprop(|={Set.univ}=> bigSepL [] (fun x => semVal (cell c x) 0))
    rw [bigSepL_nil, bigSepL_nil]
    iintro ⟨-, H⟩
    imodintro
    iexact H
  | cons x l ih =>
    rw [bigSepL_cons', bigSepL_cons']
    iintro ⟨#HR, H1, H2⟩
    imod (close_cell X Wt K c x) $$ [H1] with H1
    · isplitr; · iexact HR
      iexact H1
    imod ih $$ [H2] with H2
    · isplitr; · iexact HR
      iexact H2
    imodintro
    isplitl [H1] <;> iassumption

theorem end_sort (c : Dev nD) (f : (cc0_scratch16 : Ref sig .tc).ty.Contents (Elt F)) :
    iprop(at_ c .bar 1 ∗ bigSepL order (chEnd c) ∗ aPts c f ∗ bigSepL peers (peerOut c))
      ⊢ (iprop(bigSepL cxL (fun x => at_ c x (rounds x)) ∗ bigSepL order (fun ch => wholeAny c (buf ch).view.ref)
        ∗ bigSepL order (fun ch => pAny c ch) ∗ ∃ f, aPts c f) : sProp 𝕄) := by
  have e₁ : (bigSepL cxL (fun x => at_ c x (rounds x)) : sProp 𝕄) = iprop(at_ c .bar 1 ∗ bigSepL order (over c)
      ∗ bigSepL peers (peerOut c)) := by
    unfold cxL; rw [bigSepL_append, bigSepL_append, bigSepL_flatMap, bigSepL_flatMap]; rfl
  have e₂ : bigSepL order (chEnd (F := F) c) = iprop(bigSepL order (over c) ∗ bigSepL order (fun ch => iprop(slotAny c ch 0 ∗ slotAny c ch 1))
      ∗ bigSepL order (fun ch => pAny c ch)) := by
    rw [← bigSepL_sep, ← bigSepL_sep]
    congr 1
    funext ch
    unfold chEnd
    exact congrArg (fun Z => iprop(over c ch ∗ Z)) (BI.equiv_iff.mp ⟨BI.sep_assoc', BI.sep_assoc⟩)
  rw [e₁, e₂]
  iintro ⟨H1, ⟨H2, H3, H4⟩, H5, H6⟩
  isplitl [H1 H2 H6]
  · isplitl [H1]; · iexact H1
    isplitl [H2] <;> iassumption
  isplitl [H3]; · iapply (bigSepL_mono fun ch _ => slots_join c ch); iexact H3
  isplitl [H4]; · iexact H4
  iexists f; iexact H5

end Cert.KernelIdeal.Ring8
-- ==== Proof.ProgEq.lean ====
module

public import proofs.«01_k».proof.Proof.Program
public import Idealize.ShloMosaic.Lib.Pipeline.Regions

@[expose] public section

noncomputable section

namespace Cert.KernelIdeal.Ring8

open Idealize.ShloMosaic Idealize.SL.Sem Cert.KernelIdeal Cert.KernelIdeal.Gen

variable {F : FTy → Type} [FloatOps F]

set_option maxHeartbeats 4000000 in
/-- The kernel function on its buffers is the structured body. -/
theorem body_eq (t : Fin grid0.N) (s : (w : Fin 3) → Fin (win0 w).nbuf) : defs₀ (F := F) .tc (0 : Fin 1) (t, s) = body := by
  chain_rfl

end Cert.KernelIdeal.Ring8
-- ==== Proof.Launch.lean ====
/- The launch: from any memory with every counter at zero the eight devices' cells, positions, rights to pay and levels are
   made, every device runs its body, and the run ends with every counter at zero, the operands as they were and every
   device's block of the result at the value `outC`. -/
module

public import proofs.«01_k».proof.Proof.Start
public import proofs.«01_k».proof.Proof.ProgEq
public import proofs.«01_k».proof.Proof.Gen.KernelIdeal.Points
public import Idealize.ShloMosaic.Lib.Pipeline.CollectiveSegs
public import Idealize.ShloMosaic.Lib.SparseCore.Launch
public import Idealize.ShloMosaic.Lib.Quiescent
public import Idealize.ShloMosaic.Adequacy
public import Idealize.ShloMosaic.Init

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-- The operands' blocks as a device's copies of them read. -/
def xs : Xs F := fun c => (win0_0.blk (0 : Fin 1)).view.read (Elt F) ((s₀ m ρ).mem ((c : Thread nD τ).loc main_arg0))
def ws : Ws F := fun c => (win0_1.blk (0 : Fin 1)).view.read (Elt F) ((s₀ m ρ).mem ((c : Thread nD τ).loc main_arg1))

/-! ## The pipeline's proof data: one point, the whole kernel -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's protocol starts from, at some names of the cells' invariants. -/
def start (c : Dev nD) : sProp 𝕄 :=
  iprop(∃ K, recs (xs m ρ) (ws m ρ) K ∗ bigSepL cxL (fun x => at_ c x 0) ∗ bigSepL tokL (dTok c) ∗ bigSepL crdL (crdI c))
def bufsAny (c : Dev nD) : sProp 𝕄 :=
  iprop(bigSepL order (fun ch => wholeAny c (buf ch).view.ref) ∗ bigSepL order (fun ch => pAny c ch) ∗ ∃ f, aPts c f)
def Φ₀ (c : Dev nD) : sProp 𝕄 := iprop(start m ρ c ∗ bufsAny c)
def Φ₁ (c : Dev nD) : sProp 𝕄 := iprop(bigSepL cxL (fun x => semVal (cell c x) 0) ∗ bufsAny c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => outC (xs m ρ) (ws m ρ) c
  Φ t := match t with
    | ⟨0, _⟩ => Φ₀ m ρ c
    | ⟨_ + 1, _⟩ => Φ₁ c
  q _ := fullShare
  owed t := match t with
    | ⟨0, _⟩ => owed c allI
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄) = stg c b Y := by
  unfold owns; simp only [Memref.view_whole, View.read_whole, View.set_whole]

theorem opers_eq (X : Xs F) (Wt : Ws F) (c : Dev nD) :
    (opers X Wt c : sProp 𝕄) = iprop((((c : Thread nD τ).loc cc0_stg0_0) ↦{fullShare} X c) ∗ (((c : Thread nD τ).loc cc0_stg1_0) ↦{fullShare} Wt c)) := by
  unfold opers
  rw [show xM.view.set = Finset.univ from View.set_whole _, show wM.view.set = Finset.univ from View.set_whole _]
theorem oPts_eq (c : Dev nD) (f : OutT F) : (oPts c f : sProp 𝕄) = (((c : Thread nD τ).loc cc0_stg2_0) ↦{fullShare} f) := by
  unfold oPts
  rw [show oM.view.set = Finset.univ from View.set_whole _]

/-! ## The body -/

def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt 0 t₀.succ ∗ stg c cc0_stg0_0 (xs m ρ c) ∗ stg c cc0_stg1_0 (ws m ρ c)
    ∗ stg c cc0_stg2_0 (outC (xs m ρ) (ws m ρ) c))

theorem sound_body (c : Dev nD) : bodyPre m ρ c ⊢ WP c body (fun _ => bodyPost m ρ c) := by
  unfold bodyPre Φ₀ start bufsAny
  iintro ⟨⟨⟨%K, #HR, Hat, Htok, Hcrd⟩, Hb, Hp, %fa, Ha⟩, Ho, ⟨%d0, %g0, %hg0, H0⟩, ⟨%d1, %g1, %hg1, H1⟩, ⟨%d2, %g2, %hg2, H2⟩⟩
  have e0 : g0 = xs m ρ c := by rw [hg0]; unfold Dat.before; rw [if_pos (fetch_0 t₀)]; rfl
  have e1 : g1 = ws m ρ c := by rw [hg1]; unfold Dat.before; rw [if_pos (fetch_1 t₀)]; rfl
  subst e0 e1
  ihave Hs := (start_sort c fa) $$ [Hb Hp Ha Hat Htok Hcrd]
  · isplitl [Hb]; · iexact Hb
    isplitl [Hp]; · iexact Hp
    isplitl [Ha]; · iexact Ha
    isplitl [Hat]; · iexact Hat
    isplitl [Htok]; · iexact Htok
    iexact Hcrd
  icases Hs with ⟨Hbar, Hch, Hown, Hpeer⟩
  unfold Dat.owesAt Pipeline.owesWithin
  icases Ho with ⟨%W, %hW, HO⟩
  iapply (body_wp (xs m ρ) (ws m ρ) K c g2) $$ [H0 H1 H2 HO Hbar Hch Hown Hpeer]
  · isplitr; · iexact HR
    isplitl [H0 H1]
    · iapply (Entails.of_eq (opers_eq (xs m ρ) (ws m ρ) c).symm)
      isplitl [H0] <;> iassumption
    isplitl [HO]; · unfold Ow; iexists W; iexact HO
    isplitl [Hbar]; · iexact Hbar
    isplitl [Hch]; · iexact Hch
    isplitl [Hown]; · iexact Hown
    isplitl [Hpeer]; · iexact Hpeer
    iapply (Entails.of_eq (oPts_eq c g2).symm); iexact H2
  iintro ⟨Hop, HO, Hbar, Hch, Ha, Hpeer, Hout⟩
  ihave He := (end_sort c (rowsC (xs m ρ) (ws m ρ))) $$ [Hbar Hch Ha Hpeer]
  · isplitl [Hbar]; · iexact Hbar
    isplitl [Hch]; · iexact Hch
    isplitl [Ha]; · iexact Ha
    iexact Hpeer
  icases He with ⟨Hat, Hbufs⟩
  imod (close_list (xs m ρ) (ws m ρ) K c cxL) $$ [Hat] with Hz
  · isplitr; · iexact HR
    iexact Hat
  rw [wp_ret]; imodintro
  ihave Hop := (Entails.of_eq (opers_eq (xs m ρ) (ws m ρ) c)) $$ Hop
  icases Hop with ⟨H0, H1⟩
  ihave H2 := (Entails.of_eq (oPts_eq c (outC (xs m ρ) (ws m ρ) c))) $$ Hout
  unfold Ow
  icases HO with ⟨%W', HO⟩
  unfold bodyPost Φ₁ bufsAny Dat.owesAt Pipeline.owesWithin
  isplitl [Hz Hbufs]
  · isplitl [Hz] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

theorem sound_of (c : Dev nD) (p : P F) (hp : p = body) : bodyPre m ρ c ⊢ WP c p (fun _ => bodyPost m ρ c) := hp ▸ sound_body m ρ c

set_option maxRecDepth 4000 in
/-- The library's body obligation on device `c`. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  generalize hp : defs₀ (F := F) _ _ _ = p
  change bodyPre m ρ c ⊢ _
  have hb : p = body := hp.symm.trans (body_eq (F := F) t₀ (cfg0.slots t₀))
  exact sound_of m ρ c p hb

/-! ## The launch -/

/-- The kernel's own semaphores: all the ring's but the barrier's. -/
abbrev OwnX : Type := {x : Cx // x ≠ .bar}
abbrev osem : OwnX → SemLoc sig := fun x => semOf x.1

theorem ownSemFacts : Pipeline.OwnSemFacts cfg0.spec osem where
  isScoped := by
    have h : ∀ x : Cx, x ≠ .bar → (semOf x).isScoped .tc = true := by decide +kernel
    exact fun k => h k.1 k.2
  inj := fun a b h => Subtype.ext (semOf_inj h)
  disj := by
    have h : ∀ (x : Cx) (w : Fin 3) (s : Fin (win0 w).nbuf), semOf x ≠ .dma ((win0 w).sem s) := by decide +kernel
    exact fun k w s => h k.1 w s

theorem share_eq (c : Dev nD) (w : Fin cfg0.W) : (dats m ρ 0 c).share w = fullShare := by unfold Dat.share; split <;> rfl

abbrev cellP (cx : Dev nD × Cx) : GSem nD τ sig := cell cx.1 cx.2
theorem cellP_injective : Function.Injective cellP := by
  rintro ⟨c, x⟩ ⟨c', x'⟩ h
  have h1 : c = c' := congrArg (fun g : GSem nD τ sig => g.1.1) h
  have h2 : x = x' := semOf_inj (congrArg Prod.snd h)
  rw [h1, h2]
def ringCells : Finset (GSem nD τ sig) := Finset.univ.map ⟨cellP, cellP_injective⟩

/-- The rights to pay, each by the device that will use it. -/
abbrev tokOf (ci : Dev nD × Item) : GSem nD τ sig × ℕ × Bool := (cell (ci.2.tgt ci.1) ci.2.x, ci.2.r, ci.2.d)
theorem tokOf_injective : Function.Injective tokOf := by
  rintro ⟨c, ⟨x, r, d⟩⟩ ⟨c', ⟨x', r', d'⟩⟩ h
  have h0 : x = x' := semOf_inj (congrArg (fun y : GSem nD τ sig × ℕ × Bool => y.1.2) h)
  have h1 : r = r' := congrArg (fun y : GSem nD τ sig × ℕ × Bool => y.2.1) h
  have h2 : d = d' := congrArg (fun y : GSem nD τ sig × ℕ × Bool => y.2.2) h
  subst h0 h1 h2
  have h3 : Item.tgt ⟨x, r, d⟩ c = Item.tgt ⟨x, r, d⟩ c' := congrArg (fun y : GSem nD τ sig × ℕ × Bool => y.1.1.1) h
  rw [(Item.tgt ⟨x, r, d⟩).injective h3]
def ringToks : Finset (GSem nD τ sig × ℕ × Bool) := (Finset.univ ×ˢ tokL.toFinset).map ⟨tokOf, tokOf_injective⟩

def u₀ : UU :=
  (initOf (Pipeline.cells cfgs cellOf_inj) (Pipeline.launchToks cfgs cellOf_inj), initOf ringCells ringToks)

/-- What the launch deals device `c`, and what is made of it. -/
def G (c : Dev nD) : sProp 𝕄 :=
  iprop((bigSep Finset.univ fun x : Cx => roundState ER (Rd (xs m ρ) (ws m ρ)) (cell c x) 0)
    ∗ (bigSep Finset.univ fun x : Cx => at_ c x 0) ∗ (bigSep Finset.univ fun x : Cx => rch c x 0) ∗ bigSepL tokL (dTok c))
def G' (c : Dev nD) : sProp 𝕄 :=
  iprop(∃ K : Dev nD × Cx → ℕ, ((bigSep Finset.univ fun ck : Dev nD × Cx => cellInv ER (Rd (xs m ρ) (ws m ρ)) (K ck) (cell ck.1 ck.2))
      ∗ (bigSep Finset.univ fun ck : Dev nD × Cx => reached ER (cell ck.1 ck.2) 0))
    ∗ (bigSepL cxL (fun x => at_ c x 0) ∗ bigSepL tokL (dTok c)))

theorem cells_list (Φ : Cx → sProp 𝕄) : bigSep Finset.univ Φ = bigSepL cxL Φ := bigSep_univ_eq_bigSepL cxL cxL_univ cxL_nodup Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : Cx => Φ (cell c x) := by
    unfold ringCells; rw [bigSep_map, bigSep_univ_prod]; rfl
  have hT : bigSep ringToks (fun x => (dutyTok ER x.1 x.2.1 x.2.2 : sProp 𝕄)) = bigSep Finset.univ fun c : Dev nD => bigSepL tokL (dTok c) := by
    unfold ringToks; rw [bigSep_map, SparseCore.bigSep_product]
    exact bigSep_congr fun c _ => (bigSep_eq_bigSepL tokL tokL_nodup _)
  iintro HX
  imod (Rounds.fund ER (Rd (xs m ρ) (ws m ρ)) ringCells ringToks) $$ HX with ⟨Hst, Hr, Hat, Htok⟩
  imodintro
  ihave Hst' := (Entails.of_eq (hX fun g => roundState ER (Rd (xs m ρ) (ws m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem unscopedSems0_eq (c : Dev nD) : (unscopedSems0 c : sProp 𝕄) = semVal (cell c .bar) 0 := by
  unfold unscopedSems0; rw [bigSep_eq_bigSepL_of_eq [SemLoc.reg barS] (by decide +kernel) (by decide)]; rfl

theorem own_univ : (Finset.univ : Finset Cx) = insert Cx.bar (Finset.univ.filter fun x => x ≠ .bar) := by decide +kernel

theorem sems0_eq (c : Dev nD) :
    (iprop(Pipeline.ownSems0 (Ix := ℕ) (Name := ℕ) (U := UU) (Lvl := ℕ) (Val := Elt F) (τ := τ) osem c ∗ unscopedSems0 c) : sProp 𝕄)
      = bigSep Finset.univ fun x : Cx => semVal (cell c x) 0 := by
  rw [unscopedSems0_eq, own_univ, bigSep_insert (by decide)]
  unfold Pipeline.ownSems0
  rw [show (bigSep Finset.univ fun k : OwnX => semVal ((c.tc : Thread nD τ), osem k) 0 : sProp 𝕄)
    = bigSep (Finset.univ.filter fun x : Cx => x ≠ .bar) (fun x => semVal (cell c x) 0) from
      bigSep_subtype (fun x : Cx => x ≠ .bar) (fun x => semVal (cell c x) 0)]
  exact BI.equiv_iff.mp ⟨BI.sep_comm, BI.sep_comm⟩

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (Rd (xs m ρ) (ws m ρ)) κ (cell c x)))
          ∗ (bigSep Finset.univ fun x : Cx => at_ c x 0) ∗ (bigSep Finset.univ fun x : Cx => rch c x 0) ∗ bigSepL tokL (dTok c)) := by
  unfold G
  iintro ⟨Hos, Hus, Hst, Hat, Hr, Htok⟩
  ihave Hv := (Entails.of_eq (sems0_eq (F := F) c)) $$ [Hos Hus]
  · isplitl [Hos] <;> iassumption
  imod (show iprop((bigSep Finset.univ fun x : Cx => semVal (cell c x) 0) ∗ bigSep Finset.univ fun x : Cx => roundState ER (Rd (xs m ρ) (ws m ρ)) (cell c x) 0)
      ⊢ (|={Set.univ}=> bigSep Finset.univ fun x => iprop(∃ κ : ℕ, cellInv ER (Rd (xs m ρ) (ws m ρ)) κ (cell c x)) : sProp 𝕄) from by
        rw [← bigSep_sep']
        exact (bigSep_mono fun x _ => (Rounds.body_intro ER (Rd (xs m ρ) (ws m ρ)) (cell c x)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x => iprop(∃ κ : ℕ, cellInv ER (Rd (xs m ρ) (ws m ρ)) κ (cell c x)))
          ∗ (bigSep Finset.univ fun x : Cx => at_ c x 0) ∗ (bigSep Finset.univ fun x : Cx => rch c x 0) ∗ bigSepL tokL (dTok c)) : sProp 𝕄)
      ⊢ bigSep Finset.univ (G' m ρ) := by
  rw [bigSep_sep', bigSep_sep', bigSep_sep',
    ← bigSep_univ_prod (fun ck : Dev nD × Cx => iprop(∃ κ : ℕ, cellInv ER (Rd (xs m ρ) (ws m ρ)) κ (cell ck.1 ck.2))),
    ← bigSep_univ_prod (fun ck : Dev nD × Cx => (rch ck.1 ck.2 0 : sProp 𝕄))]
  unfold rch
  iintro ⟨HI, Hat, #HR, Htok⟩
  ihave HK := (BI.bigSep_exists_pi Finset.univ (fun (ck : Dev nD × Cx) (κ : ℕ) => (cellInv ER (Rd (xs m ρ) (ws m ρ)) κ (cell ck.1 ck.2) : sProp 𝕄))) $$ HI
  icases HK with ⟨%K, #HI⟩
  iapply (bigSep_with (R := iprop((bigSep Finset.univ fun ck : Dev nD × Cx => cellInv ER (Rd (xs m ρ) (ws m ρ)) (K ck) (cell ck.1 ck.2))
      ∗ (bigSep Finset.univ fun ck : Dev nD × Cx => reached ER (cell ck.1 ck.2) 0)))
    (Φ := fun c : Dev nD => iprop(bigSepL cxL (fun x => at_ c x 0) ∗ bigSepL tokL (dTok c))) fun c _ => by
      unfold G'
      iintro H
      iexists K
      iexact H)
  isplitr
  · isplitl; · iexact HI
    iexact HR
  · iapply (Entails.of_eq (bigSep_sep' Finset.univ (fun c : Dev nD => (bigSepL cxL (fun x => at_ c x 0) : sProp 𝕄)) (fun c => bigSepL tokL (dTok c))).symm)
    isplitl [Hat]
    · iapply (Entails.of_eq (bigSep_congr (s := Finset.univ) fun (c : Dev nD) _ => cells_list (F := F) (fun x => at_ c x 0)))
      iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The side conditions -/

theorem start_intro (c : Dev nD) :
    iprop(Pipeline.unscopedRestP Pipeline.Prefetch.none cfg0.spec c (fun b => m ((c : Thread nD τ).loc b)) ∗ levAts Lv lev
        ∗ Pipeline.launchCred (fun d => owed d allI) c ∗ prngReg c (ρ c) ∗ G' m ρ c)
      ⊢ |={Set.univ}=> iprop(start m ρ c ∗ emp) := by
  iintro ⟨-, Hlev, Hcr, -, HG⟩
  ihave Hc := (crds_dealt (F := F) c) $$ Hcr
  imodintro
  unfold start G' recs
  icases HG with ⟨%K, ⟨HI, HR⟩, Hat, Htok⟩
  isplitl
  · iexists K
    isplitl [HI HR Hlev]
    · isplitl [HI]; · iexact HI
      isplitl [HR]; · iexact HR
      iexact Hlev
    isplitl [Hat]; · iexact Hat
    isplitl [Htok]; · iexact Htok
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ bufsAny
  iintro ⟨Hs, -, Hr⟩
  isplitl [Hs]; · iexact Hs
  iapply (Entails.of_eq (scoped_eq (F := F) c)); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁ bufsAny
  iintro ⟨Hz, Hr⟩
  ihave Hz := (Entails.of_eq ((cells_list (F := F) (fun x => semVal (cell c x) 0)).symm.trans (sems0_eq (F := F) c).symm)) $$ Hz
  icases Hz with ⟨Ho, Hu⟩
  isplitl [Hu]; · iexact Hu
  isplitl [Ho]; · iexact Ho
  iapply (Entails.of_eq (scoped_eq (F := F) c).symm); iexact Hr

theorem stage_level : ∀ (w : Fin 3) (s : Fin (win0 w).nbuf) (x : Cx), semOf x ≠ .dma ((win0 w).sem s) := by decide +kernel

theorem lev_stage (c : Dev nD) (w : Fin 3) (s : Fin (win0 w).nbuf) : lev ((c : Thread nD τ), .dma ((win0 w).sem s)) 0 = 0 := by
  unfold lev kind
  dsimp only
  rw [dif_neg (fun h => h.elim fun x hx => stage_level w s x hx)]

theorem allI_levels : ∀ i ∈ allI, i.r < 8 ∧ 0 < levX i.x i.r := by decide +kernel

theorem waits_ok (c : Dev nD) : (levAts Lv lev : sProp 𝕄) ⊢ Pipeline.cellsWaits cfgs (dats m ρ) 0 0 c :=
  Pipeline.cellsWaits_intro cfgs (dats m ρ) 0 0 c fun w s t => by
    rcases t with ⟨_ | _, ht⟩
    · exact mayWait c (by decide) (lev_stage c w s).le allI_levels
    · exact mayWait c (n := 0) (l := []) (by decide) (lev_stage c w s).le (fun i hi => absurd hi (List.not_mem_nil))

theorem Lv_of_ne (g : GSem nD τ sig) (h : g.1.2 ≠ .tc) : Lv g = ∅ := if_neg h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At any float values, from any memory with zero counters: every weakly fair execution of the program on the eight devices
    terminates; every final state has each device's arrays at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun d => owed d allI) (howed₀ := fun _ => rfl) (howedN := fun _ => rfl)
    (L := Lv) (lv := lev) (hL := Lv_of_ne) (hwaits := waits_ok m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring8
-- ==== Proof.Outcome.lean ====
/- What the run leaves: the operands as they were, and on each device the block computed in the result. -/
module

public import proofs.«01_k».proof.Defs
public import proofs.«01_k».proof.Proof.Launch
public import proofs.«01_k».proof.Proof.Gen.Kernel

@[expose] public section

noncomputable section

namespace Cert.KernelIdeal.Ring8

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

theorem blk_emb_0 (i : S4096x512.Idx) : (win0_0.blk (0 : Fin 1)).view.emb i = i := by
  funext a
  apply Fin.ext
  fin_cases a
  · show 0 * 4096 + 1 * (i 0).val = (i 0).val
    omega
  · show 0 * 512 + 1 * (i 1).val = (i 1).val
    omega
theorem blk_emb_1 (i : S512x8192.Idx) : (win0_1.blk (0 : Fin 1)).view.emb i = i := by
  funext a
  apply Fin.ext
  fin_cases a
  · show 0 * 512 + 1 * (i 0).val = (i 0).val
    omega
  · show 0 * 8192 + 1 * (i 1).val = (i 1).val
    omega
theorem blk_emb_2 (i : S512x8192.Idx) : (win0_2.blk (0 : Fin 1)).view.emb i = i := by
  funext a
  apply Fin.ext
  fin_cases a
  · show 0 * 512 + 1 * (i 0).val = (i 0).val
    omega
  · show 0 * 8192 + 1 * (i 1).val = (i 1).val
    omega

/-- The operands' blocks are the arrays themselves. -/
theorem xs_eq (c : Dev nD) : xs m ρ c = m ((c : Thread nD τ).loc main_arg0) := by
  funext i
  show m ((c : Thread nD τ).loc main_arg0) ((win0_0.blk (0 : Fin 1)).view.emb i) = _
  rw [blk_emb_0]
theorem ws_eq (c : Dev nD) : ws m ρ c = m ((c : Thread nD τ).loc main_arg1) := by
  funext i
  show m ((c : Thread nD τ).loc main_arg1) ((win0_1.blk (0 : Fin 1)).view.emb i) = _
  rw [blk_emb_1]

theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

theorem finalA_read (c : Dev nD) :
    (win0_2.blk (0 : Fin 1)).view.read (Elt F) (finalA m ρ c (2 : Fin 3)) = outC (xs m ρ) (ws m ρ) c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _
theorem read_blk_2 (c : Dev nD) (f : Buf (Elt F) (win0_2.arr.view.loc (c : Thread nD τ))) :
    (win0_2.blk (0 : Fin 1)).view.read (Elt F) f = f := by
  funext i
  show f ((win0_2.blk (0 : Fin 1)).view.emb i) = f i
  rw [blk_emb_2]
theorem finalA_o (c : Dev nD) : finalA m ρ c (2 : Fin 3) = outC (xs m ρ) (ws m ρ) c :=
  (read_blk_2 c (finalA m ρ c (2 : Fin 3))).symm.trans (finalA_read m ρ c)

/-- The run, read at the three arrays. -/
theorem run_arrays : θ_run defs (onTc (τ := τ) (main (F := F))) ⟨m, fun _ => 0, ρ⟩ (fun r =>
    (∀ c : Dev nD, r.2.mem ((c : Thread nD τ).loc main_v1) = outC (xs m ρ) (ws m ρ) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (finalA_o m ρ c), (h.1 c (0 : Fin 3)).trans (finalA_x m ρ c),
    (h.1 c (1 : Fin 3)).trans (finalA_w m ρ c)⟩, h.2⟩) (run_main m ρ)

/-- At the extended reals the run leaves the arguments and every counter as they were; -/
theorem frame_ideal : Cert.quiescent_KernelIdeal := fun m ρ _ =>
  (θ_run defs _ _).mono (fun _ h => ⟨fun c => (h.1 c).2, h.2⟩) (run_arrays (F := Ideal) m ρ)

set_option maxHeartbeats 4000000 in
/-- The program at its machine's floats has the same text: the same body, the same table. -/
theorem kernel_body (t : Fin grid0.N) (s : (w : Fin 3) → Fin (win0 w).nbuf) :
    Cert.Kernel.defs₀ (F := Bits) .tc (0 : Fin 1) (t, s) = body := by
  chain_rfl

theorem kernel_defs₀ : Cert.Kernel.defs₀ (F := Bits) = defs₀ (F := Bits) := by
  funext p ℓ a
  match p, ℓ, a with
  | .tc, ⟨0, _⟩, (t, s) => exact (kernel_body t s).trans (body_eq t s).symm
  | .scScalar _, _, _ => rfl
  | .scVector _ _, _, _ => rfl

theorem kernel_defs : Cert.Kernel.defs (F := Bits) = defs (F := Bits) :=
  congrArg (Pipeline.defs pcfgs) kernel_defs₀

/-- and so does the run at the machine's floats. -/
theorem frame_kernel : Cert.quiescent_Kernel := fun m ρ _ => by
  rw [kernel_defs]
  exact (θ_run Cert.KernelIdeal.defs _ _).mono (fun _ h => ⟨fun c => (h.1 c).2, h.2⟩) (run_arrays (F := Bits) m ρ)

end Cert.KernelIdeal.Ring8

end
-- ==== Proof.Value.lean ====
/- What the devices compute, over the extended reals: the sum that reaches a device last is its block of the whole product. -/
module

public import proofs.«01_k».proof.Proof.Protocol
public import Idealize.ShloMosaic.Lib.MatmulPlain
public import Idealize.ShloMosaic.Lib.ValueIdx
public import Idealize.ShloMosaic.Lib.Layout
public import Idealize.ShloMosaic.Lib.Pipeline.Value

@[expose] public section

noncomputable section

namespace Cert.KernelIdeal.Ring8

open Cert.KernelIdeal Cert.KernelIdeal.Gen
open Idealize.ShloMosaic
open Idealize.ShloMosaic.ValueIdx
open scoped BigOperators

/-- The left operand whole, and the right operand whole. -/
abbrev LhsA := (⟨2, ![4096, 4096]⟩ : Shape).Idx → EReal
abbrev RhsA := (⟨2, ![4096, 8192]⟩ : Shape).Idx → EReal

/-- Place `i` of the `d`-th of eight blocks of 512, and place `n` of the `ch`-th of eight blocks of 1024. -/
def at512 (d : Fin 8) (i : Fin 512) : Fin 4096 := ⟨512 * d.val + i.val, by omega⟩
def at1024 (ch : Fin 8) (n : Fin 1024) : Fin 8192 := ⟨1024 * ch.val + n.val, by omega⟩

/-- An element of the product, and the part of it that device `d`'s columns and rows give. -/
def prodAt (A : LhsA) (B : RhsA) (r : Fin 4096) (n : Fin 8192) : EReal := ∑ k : Fin 4096, A (ix2 r k) * B (ix2 k n)
def partAt (A : LhsA) (B : RhsA) (d : Fin 8) (r : Fin 4096) (n : Fin 8192) : EReal :=
  ∑ k : Fin 512, A (ix2 r (at512 d k)) * B (ix2 (at512 d k) n)

/-- The parts add up to the element. -/
theorem sum_partAt (A : LhsA) (B : RhsA) (r : Fin 4096) (n : Fin 8192) : ∑ d : Fin 8, partAt A B d r n = prodAt A B r n := by
  unfold partAt prodAt
  rw [← Fintype.sum_prod_type' (f := fun (d : Fin 8) (k : Fin 512) => A (ix2 r (at512 d k)) * B (ix2 (at512 d k) n))]
  refine Fintype.sum_equiv (finProdFinEquiv (m := 8) (n := 512)) _ _ fun p => ?_
  have h : finProdFinEquiv (m := 8) (n := 512) p = at512 p.1 p.2 := by
    apply Fin.ext
    show p.2.val + 512 * p.1.val = 512 * p.1.val + p.2.val
    omega
  rw [h]

/-! ## The products -/

/-- The block of rows device `d` multiplies on channel `ch` at hop `h`. -/
def rowAt (ch : Fin 8) (d : Dev nD) (h : Fin 8) : Fin 8 :=
  if ch.val < 4 then ⟨(d.val + 15 - h.val) % 8, Nat.mod_lt _ (by omega)⟩ else ⟨(d.val + h.val + 1) % 8, Nat.mod_lt _ (by omega)⟩

theorem offX_0 : ∀ (ch : Fin 8) (d : Dev nD) (h : Fin 8), offX ch d h 0 = 512 * (rowAt ch d h).val := by decide +kernel
theorem offX_1 : ∀ (ch : Fin 8) (d : Dev nD) (h : Fin 8), offX ch d h 1 = 0 := by decide +kernel
/-- A partial sum stays with its block of rows as it moves on, and ends where that block belongs. -/
theorem rowAt_src : ∀ (ch : Fin 8) (d : Dev nD) (h : Fin 7), rowAt ch (srcD ch d) h.castSucc = rowAt ch d h.succ := by decide +kernel
theorem rowAt_last : ∀ (ch : Fin 8) (d : Dev nD), rowAt ch d 7 = d := by decide +kernel

variable (A : LhsA) (B : RhsA) (X : Xs Ideal) (Wt : Ws Ideal)
  (hX : ∀ (c : Dev nD) (r : Fin 4096) (k : Fin 512), X c (ix2 r k) = A (ix2 r (at512 c k)))
  (hW : ∀ (c : Dev nD) (k : Fin 512) (n : Fin 8192), Wt c (ix2 k n) = B (ix2 (at512 c k) n))

include hX in
theorem xBlk_at (c : Dev nD) (ch : Fin 8) (h : ℕ) (i k : Fin 512) :
    xBlk X c ch h (ix2 i k) = A (ix2 (at512 (rowAt ch c (Fin.ofNat 8 h)) i) (at512 c k)) := by
  rw [← hX]
  refine congrArg (X c) ?_
  funext a
  apply Fin.ext
  fin_cases a
  · show offX ch c (Fin.ofNat 8 h) 0 + 1 * i.val = 512 * (rowAt ch c (Fin.ofNat 8 h)).val + i.val
    rw [offX_0, one_mul]
  · show offX ch c (Fin.ofNat 8 h) 1 + 1 * k.val = k.val
    rw [offX_1, one_mul, zero_add]

include hW in
theorem wBlk_at (c : Dev nD) (ch : Fin 8) (k : Fin 512) (n : Fin 1024) :
    wBlk Wt c ch (ix2 k n) = B (ix2 (at512 c k) (at1024 ch n)) := by
  rw [← hW]
  refine congrArg (Wt c) ?_
  funext a
  apply Fin.ext
  fin_cases a
  · show 0 + 1 * k.val = k.val
    omega
  · show 1024 * ch.val + 1 * n.val = 1024 * ch.val + n.val
    omega

/-- A product is the sum over the contracted places. -/
theorem dotV_at (v : Vec Ideal S512x512 .bf16) (w : Vec Ideal S512x1024 .bf16) (i : Fin 512) (n : Fin 1024) :
    dotV v w (ix2 i n) = ∑ k : Fin 512, v (ix2 i k) * w (ix2 k n) := by
  unfold dotV k0_pay29
  simp only [shapeCast_self]
  refine (Ideal.matmul_plain_apply (M := 512) (K := 512) (N := 1024) (φ₁ := .bf16) (φ₂ := .bf16) none v w _ i n).trans ?_
  have h : constant (F := Ideal) S512x1024 .f32 0x00000000#32 (ix2 i n) = (0 : EReal) := Ideal.ofBits_zero_f32
  rw [h]
  exact zero_add _

include hX hW in
theorem prod_at (c : Dev nD) (ch : Fin 8) (h : ℕ) (i : Fin 512) (n : Fin 1024) :
    prod X Wt c ch h (ix2 i n) = partAt A B c (at512 (rowAt ch c (Fin.ofNat 8 h)) i) (at1024 ch n) := by
  unfold prod partAt
  rw [dotV_at]
  exact Finset.sum_congr rfl fun k _ => by rw [xBlk_at A X hX, wBlk_at B Wt hW]

/-! ## The sums -/

/-- A slot's contents as the column block they hold. -/
def flat (u : FVec Ideal S1x512x1024 .bf16) : FVec Ideal S512x1024 .bf16 :=
  shapeCast S512x1024 u shapeCasts_S1x512x1024_S512x1024

theorem flat_dot0 (v : Vec Ideal S512x512 .bf16) (w : Vec Ideal S512x1024 .bf16) : flat (dot0V v w) = dotV v w := by
  unfold flat dot0V k0_pay1 dotV k0_pay29
  simp only [shapeCast_shapeCast, shapeCast_self]
theorem flat_add (v : FVec Ideal S512x1024 .bf16) (u : FVec Ideal S1x512x1024 .bf16) (j : S512x1024.Idx) :
    flat (addV v u) j = v j + flat u j := by
  have h : flat (addV v u) = addf v (flat u) := by
    unfold flat addV k0_pay27
    rw [shapeCast_shapeCast]
  rw [h]
  rfl
theorem acc_at (v : FVec Ideal S512x1024 .bf16) (u : FVec Ideal S1x512x1024 .bf16) (j : S512x1024.Idx) :
    accV (F := Ideal) v u j = (v j + flat u j : EReal) := rfl

include hX hW in
/-- The partial sum sent at hop `h` holds the parts of the `h + 1` devices it has passed. -/
theorem sent_at (ch : Fin 8) (i : Fin 512) (n : Fin 1024) : ∀ (h : ℕ) (hh : h < 7) (c : Dev nD),
    flat (sent X Wt ch h c) (ix2 i n)
      = ∑ j ∈ Finset.range (h + 1), partAt A B ((srcD ch)^[j] c) (at512 (rowAt ch c (Fin.ofNat 8 h)) i) (at1024 ch n)
  | 0, _, c => by
    rw [Finset.sum_range_one]
    show flat (dot0V (xBlk X c ch 0) (wBlk Wt c ch)) (ix2 i n) = _
    rw [flat_dot0]
    exact prod_at A B X Wt hX hW c ch 0 i n
  | h + 1, hh, c => by
    have hr : rowAt ch (srcD ch c) (Fin.ofNat 8 h) = rowAt ch c (Fin.ofNat 8 (h + 1)) := by
      have e := rowAt_src ch c ⟨h, by omega⟩
      have e1 : (⟨h, by omega⟩ : Fin 7).castSucc = Fin.ofNat 8 h := Fin.ext (Nat.mod_eq_of_lt (by omega)).symm
      have e2 : (⟨h, by omega⟩ : Fin 7).succ = Fin.ofNat 8 (h + 1) := Fin.ext (Nat.mod_eq_of_lt (by omega)).symm
      rwa [e1, e2] at e
    show flat (addV (prod X Wt c ch (h + 1)) (sent X Wt ch h (srcD ch c))) (ix2 i n) = _
    rw [flat_add, sent_at ch i n h (by omega), prod_at A B X Wt hX hW, hr, Finset.sum_range_succ' _ (h + 1), add_comm]
    rfl

/-- The eight devices a sum passes are all of them. -/
theorem src_bij (ch : Fin 8) (c : Dev nD) : Function.Bijective fun j : Fin 8 => ((srcD ch)^[j.val] c : Fin 8) := by
  rw [← Finite.injective_iff_bijective]
  revert ch c
  unfold Function.Injective
  decide +kernel

include hX hW in
/-- The full sum on device `c` is its block of rows of the product. -/
theorem total_at (c : Dev nD) (ch : Fin 8) (i : Fin 512) (n : Fin 1024) :
    total X Wt c ch (ix2 i n) = prodAt A B (at512 c i) (at1024 ch n) := by
  have hr : rowAt ch (srcD ch c) (Fin.ofNat 8 6) = c := (rowAt_src ch c 6).trans (rowAt_last ch c)
  show accV (prod X Wt c ch 7) (sent X Wt ch 6 (srcD ch c)) (ix2 i n) = _
  rw [acc_at, sent_at A B X Wt hX hW ch i n 6 (by omega), prod_at A B X Wt hX hW, hr,
    show rowAt ch c (Fin.ofNat 8 7) = c from rowAt_last ch c, ← sum_partAt,
    ← (src_bij ch c).sum_comp (fun d => partAt A B d (at512 c i) (at1024 ch n)),
    Fin.sum_univ_eq_sum_range (fun j => partAt A B ((srcD ch)^[j] c) (at512 c i) (at1024 ch n)) 8,
    Finset.sum_range_succ' _ 7, add_comm]
  rfl

end Cert.KernelIdeal.Ring8

end
-- ==== Proof.Quant.lean ====
/- The largest absolute value and the quantiser, over the extended reals: what the devices compute from their maxima
   and what one device computes from the whole array agree. -/
module

public import proofs.«01_k».proof.Proof.Value
public import proofs.«01_k».proof.Proof.Gen.ReferenceIdeal.Run
public import Idealize.ShloMosaic.Lib.IdealHost
public import Idealize.ShloMosaic.Lib.StackMember

@[expose] public section

noncomputable section

namespace Cert.KernelIdeal.Ring8

open Cert.KernelIdeal Cert.KernelIdeal.Gen
open Idealize.ShloMosaic
open Idealize.ShloMosaic.ValueIdx
open scoped BigOperators

/-! ## The constants -/

theorem ofBits_bot : Ideal.ofBits .f32 0xFF800000#32 = ⊥ := by simp [Ideal.ofBits, Ideal.ieee]
theorem ofBits_127 : Ideal.ofBits .f32 0x42FE0000#32 = ((127 : ℝ) : EReal) := by
  simp [Ideal.ofBits, Ideal.ieee, -EReal.coe_mul]; norm_num

/-! ## Maxima -/

theorem S1_eq (a b : S1.Idx) : a = b := by
  funext x
  fin_cases x
  apply Fin.ext
  have ha : (a 0).val < 1 := (a 0).isLt
  have hb : (b 0).val < 1 := (b 0).isLt
  show (a 0).val = (b 0).val
  omega

/-- The largest of an array is at most `z` exactly when each element is. -/
theorem multiMax_le {s : Shape} {axes : List (Fin s.rank)} (src : FVec Ideal s .f32) (h : s.Reduces axes S1)
    (hφ : FKind.Formats .f32) (hacc : 0xFF800000#32 = FKind.maximumf.neutral .f32 hφ) (j : S1.Idx) (z : EReal) :
    (multiReduction .maximumf axes S1 src 0xFF800000#32 h hφ hacc j : EReal) ≤ z ↔ ∀ i, (src i : EReal) ≤ z := by
  rw [multiReduction_maximumf_eq_fold]
  show (Finset.univ.filter fun i => h.drop i = j).fold max (Ideal.ofBits .f32 0xFF800000#32 : EReal) src ≤ z ↔ _
  rw [Finset.fold_max_le, ofBits_bot]
  exact ⟨fun g i => g.2 i (Finset.mem_filter.2 ⟨Finset.mem_univ _, S1_eq _ _⟩), fun g => ⟨bot_le, fun i _ => g i⟩⟩

/-- A relaid array has the elements of the array. -/
theorem cast_all {s t : Shape} {α : Type} (p : α → Prop) (v : s.Idx → α) (h : s.ShapeCasts t) (h' : t.ShapeCasts s) :
    (∀ i, p (shapeCast t v h i)) ↔ ∀ j, p (v j) :=
  ⟨fun g j => by rw [← congrFun (shapeCast_shapeCast v h h') j]; exact g _, fun g i => g _⟩

/-- The largest of the rows, -/
theorem pay147_le (a : Vec Ideal S8x128 .f32) (z : EReal) : (k0_pay147 (F := Ideal) a : EReal) ≤ z ↔ ∀ i, (a i : EReal) ≤ z :=
  (multiMax_le _ _ (.inl rfl) rfl _ z).trans (cast_all (fun y : EReal => y ≤ z) a shapeCasts_S8x128_S1x8x128 (by decide))

/-- and a maximum joined with the largest absolute value of a channel's sums. -/
theorem maxV_le (m : Ideal .f32) (v : FVec Ideal S512x1024 .bf16) (u : FVec Ideal S1x512x1024 .bf16) (z : EReal) :
    (maxV (F := Ideal) m v u : EReal) ≤ z ↔ (m : EReal) ≤ z ∧ ∀ j, (FloatOps.absf (accV (F := Ideal) v u j) : EReal) ≤ z := by
  refine (max_le_iff (α := EReal)).trans (and_congr_right fun _ => (multiMax_le _ _ (.inl rfl) rfl _ z).trans ?_)
  exact cast_all (fun y : EReal => y ≤ z) (absf (k0_pay134 (F := Ideal) v u)) shapeCasts_S512x1024_S1x512x1024 (by decide)

theorem foldl_max_le {ι : Type} (f : ι → FVec Ideal S512x1024 .bf16) (g : ι → FVec Ideal S1x512x1024 .bf16) (z : EReal) :
    ∀ (l : List ι) (b : Ideal .f32), (l.foldl (fun m x => maxV (F := Ideal) m (f x) (g x)) b : EReal) ≤ z
      ↔ (b : EReal) ≤ z ∧ ∀ x ∈ l, ∀ j, (FloatOps.absf (accV (F := Ideal) (f x) (g x) j) : EReal) ≤ z
  | [], b => by simp
  | x :: l, b => by
    rw [List.foldl_cons, foldl_max_le f g z l, maxV_le, List.forall_mem_cons, and_assoc]

theorem mem_order : ∀ ch : Fin 8, ch ∈ order := by decide

/-- A device's maximum bounds its sums. -/
theorem locMax_le (X : Xs Ideal) (Wt : Ws Ideal) (c : Dev nD) (z : EReal) :
    (locMax X Wt c : EReal) ≤ z ↔ (0 : EReal) ≤ z ∧ ∀ ch j, (FloatOps.absf (total X Wt c ch j) : EReal) ≤ z := by
  unfold locMax total
  rw [foldl_max_le (fun ch => prod X Wt c ch 7) (fun ch => arrived X Wt c ch) z]
  refine and_congr ?_ ⟨fun g ch => g ch (mem_order ch), fun g ch _ => g ch⟩
  show (Ideal.ofBits .f32 0x00000000#32 : EReal) ≤ z ↔ _
  rw [Ideal.ofBits_zero_f32]

/-! ## The quantiser -/

/-- An element `y` quantised at the scale that the largest absolute value `g` gives, as one device computes it, -/
def quantAt (g y : EReal) : EReal :=
  FloatOps.mulf (F := Ideal) (φ := .f32)
    (FloatOps.minimumf (Ideal.ofBits .f32 0x42FE0000#32)
      (FloatOps.maximumf (Ideal.ofBits .f32 0xC2FE0000#32)
        (FloatOps.roundeven (φ := .f32) (Ideal.div y (Ideal.div g (Ideal.ofBits .f32 0x42FE0000#32))))))
    (Ideal.div g (Ideal.ofBits .f32 0x42FE0000#32))
/-- and as the devices do. -/
def quantBy (g y : EReal) : EReal :=
  FloatOps.mulf (F := Ideal) (φ := .f32)
    (FloatOps.minimumf (Ideal.ofBits .f32 0x42FE0000#32)
      (FloatOps.maximumf (Ideal.ofBits .f32 0xC2FE0000#32)
        (FloatOps.roundeven (φ := .f32) (y * Ideal.div (Ideal.ofBits .f32 0x42FE0000#32) g))))
    (Ideal.div g (Ideal.ofBits .f32 0x42FE0000#32))

/-- Multiplying by the inverse of the scale is dividing by it; where the scale is zero both results are. -/
theorem quantBy_eq (g y : EReal) : quantBy g y = quantAt g y := by
  have h127 : ((127 : ℝ) : EReal) ≠ 0 := by norm_cast
  unfold quantBy quantAt
  rw [ofBits_127]
  by_cases hg : g = 0
  · have hs : Ideal.div g ((127 : ℝ) : EReal) = 0 := by
      unfold Ideal.div
      rw [if_neg h127, hg, zero_mul]
    rw [hs]
    show (_ : EReal) * (0 : EReal) = (_ : EReal) * (0 : EReal)
    rw [mul_zero, mul_zero]
  · have hi : (((127 : ℝ) : EReal))⁻¹ ≠ 0 := by
      rw [← EReal.coe_inv]; norm_cast; norm_num
    have hs : g * (((127 : ℝ) : EReal))⁻¹ ≠ 0 := mul_ne_zero hg hi
    have e : y * Ideal.div ((127 : ℝ) : EReal) g = Ideal.div y (Ideal.div g ((127 : ℝ) : EReal)) := by
      unfold Ideal.div
      rw [if_neg hg, if_neg h127, if_neg hs, EReal.mul_inv, EReal.inv_inv (EReal.coe_ne_bot _) (EReal.coe_ne_top _),
        mul_comm g⁻¹]
    rw [e]

theorem quantV_at (a : Vec Ideal S8x128 .f32) (v : FVec Ideal S512x1024 .f32) (j : S512x1024.Idx) :
    quantV (F := Ideal) a v j = quantAt (k0_pay147 (F := Ideal) a) (v j) := by
  rw [← quantBy_eq]
  unfold quantV k0_pay150 quantBy k0_pay148 k0_pay149
  generalize (k0_pay147 (F := Ideal) a) = g
  simp only [shapeCast_self]
  rfl

end Cert.KernelIdeal.Ring8

end
-- ==== Proof.Agree.lean ====
/- The result the devices compute is, block by block, the result one device computes from the whole operands. -/
module

public import proofs.«01_k».proof.Defs
public import proofs.«01_k».proof.Proof.Quant
public import proofs.«01_k».proof.Proof.Outcome

@[expose] public section

noncomputable section

namespace Cert.KernelIdeal.Ring8

open Cert.KernelIdeal Cert.KernelIdeal.Gen
open Idealize.ShloMosaic Idealize.SL.Sem
open Idealize.ShloMosaic.TcCoe
open Idealize.ShloMosaic.ValueIdx
open scoped BigOperators

/-! ## The result on one device -/

/-- The whole product, its largest absolute value, the scale and the quantised product. -/
def refY (A : FVec Ideal ⟨2, ![4096, 4096]⟩ .bf16) (B : FVec Ideal ⟨2, ![4096, 8192]⟩ .bf16) : FVec Ideal ⟨2, ![4096, 8192]⟩ .f32 :=
  Host.dotGeneral Cert.ReferenceIdeal.dot_S4096x4096_S4096x8192_S4096x8192_1_0_0_1_n_n none A B
def refMax (Y : FVec Ideal ⟨2, ![4096, 8192]⟩ .f32) : FVec Ideal ⟨0, ![]⟩ .f32 :=
  Host.reduce FloatOps.maximumf (Host.absf Y) (constant ⟨0, ![]⟩ .f32 0xFF800000#32)
    Cert.ReferenceIdeal.Gen.reducesTo_S4096x8192_S_d0_1 Cert.ReferenceIdeal.Gen.h_S_
def refScale (Y : FVec Ideal ⟨2, ![4096, 8192]⟩ .f32) : FVec Ideal ⟨2, ![4096, 8192]⟩ .f32 :=
  broadcastInDim ⟨2, ![4096, 8192]⟩ ![] Cert.ReferenceIdeal.Gen.bcast_S_S4096x8192
    (Host.divf (refMax Y) (constant ⟨0, ![]⟩ .f32 0x42FE0000#32))
def refOut (Y : FVec Ideal ⟨2, ![4096, 8192]⟩ .f32) : FVec Ideal ⟨2, ![4096, 8192]⟩ .f32 :=
  mulf (minimumf (broadcastInDim ⟨2, ![4096, 8192]⟩ ![] Cert.ReferenceIdeal.Gen.bcast_S_S4096x8192 (id (constant ⟨0, ![]⟩ .f32 0x42FE0000#32)))
    (maximumf (broadcastInDim ⟨2, ![4096, 8192]⟩ ![] Cert.ReferenceIdeal.Gen.bcast_S_S4096x8192 (id (constant ⟨0, ![]⟩ .f32 0xC2FE0000#32)))
      (Host.roundeven (Host.divf Y (refScale Y))))) (refScale Y)

theorem refY_at (A : LhsA) (B : RhsA) (r : Fin 4096) (n : Fin 8192) : refY A B (ix2 r n) = prodAt A B r n :=
  StackMember.dotGeneral_plain_apply (m := 4096) (k := 4096) (n := 8192) (φ₁ := .bf16) (φ₂ := .bf16) none A B r n

theorem refY_idx (A : LhsA) (B : RhsA) (j : (⟨2, ![4096, 8192]⟩ : Shape).Idx) : refY A B j = prodAt A B (j 0) (j 1) :=
  (congrArg (refY A B) (eq_ix2 j)).trans (refY_at A B (j 0) (j 1))

theorem refMax_le (Y : FVec Ideal ⟨2, ![4096, 8192]⟩ .f32) (z : EReal) :
    (refMax Y ix0 : EReal) ≤ z ↔ ∀ i, (FloatOps.absf (Y i) : EReal) ≤ z := by
  unfold refMax
  rw [Host.reduce_eq_fold]
  show (Finset.univ.filter fun i => _ = ix0).fold max (Ideal.ofBits .f32 0xFF800000#32 : EReal) (fun i => (FloatOps.absf (Y i) : EReal)) ≤ z ↔ _
  rw [Finset.fold_max_le, ofBits_bot]
  exact ⟨fun g i => g.2 i (Finset.mem_filter.2 ⟨Finset.mem_univ _, funext fun a => a.elim0⟩), fun g => ⟨bot_le, fun i _ => g i⟩⟩

theorem refOut_at (Y : FVec Ideal ⟨2, ![4096, 8192]⟩ .f32) (j : (⟨2, ![4096, 8192]⟩ : Shape).Idx) :
    refOut Y j = quantAt (refMax Y ix0) (Y j) := by
  have hs : refScale Y j = Ideal.div (refMax Y ix0) (Ideal.ofBits .f32 0x42FE0000#32) :=
    broadcastInDim_scalar_apply _ _ j
  have h : refOut Y j = FloatOps.mulf (F := Ideal) (φ := .f32)
    (FloatOps.minimumf (Ideal.ofBits .f32 0x42FE0000#32)
      (FloatOps.maximumf (Ideal.ofBits .f32 0xC2FE0000#32)
        (FloatOps.roundeven (φ := .f32) (Ideal.div (Y j) (refScale Y j))))) (refScale Y j) := rfl
  rw [h, hs]
  rfl

/-! ## The two results -/

variable (A : LhsA) (B : RhsA) (X : Xs Ideal) (Wt : Ws Ideal)
  (hX : ∀ (c : Dev nD) (r : Fin 4096) (k : Fin 512), X c (ix2 r k) = A (ix2 r (at512 c k)))
  (hW : ∀ (c : Dev nD) (k : Fin 512) (n : Fin 8192), Wt c (ix2 k n) = B (ix2 (at512 c k) n))

/-- Every row and column lies in one of the eight blocks. -/
theorem at512_all (p : Fin 4096 → Prop) : (∀ r, p r) ↔ ∀ d i, p (at512 d i) :=
  ⟨fun g d i => g _, fun g r => by
    have e : r = at512 ⟨r.val / 512, by omega⟩ ⟨r.val % 512, Nat.mod_lt _ (by omega)⟩ := Fin.ext (Nat.div_add_mod r.val 512).symm
    rw [e]
    exact g _ _⟩
theorem at1024_all (p : Fin 8192 → Prop) : (∀ r, p r) ↔ ∀ d i, p (at1024 d i) :=
  ⟨fun g d i => g _, fun g r => by
    have e : r = at1024 ⟨r.val / 1024, by omega⟩ ⟨r.val % 1024, Nat.mod_lt _ (by omega)⟩ := Fin.ext (Nat.div_add_mod r.val 1024).symm
    rw [e]
    exact g _ _⟩

/-- An absolute value is not negative. -/
theorem absf_nonneg (y : Ideal .f32) : (0 : EReal) ≤ FloatOps.absf y := by
  show (0 : EReal) ≤ max (y : EReal) (-(y : EReal))
  rcases le_total (0 : EReal) y with h | h
  · exact le_max_of_le_left h
  · exact le_max_of_le_right (EReal.neg_nonneg.2 h)

include hX hW in
theorem total_idx (c : Dev nD) (ch : Fin 8) (j : S512x1024.Idx) :
    total X Wt c ch j = prodAt A B (at512 c (j 0)) (at1024 ch (j 1)) :=
  (congrArg (total X Wt c ch) (eq_ix2 j)).trans (total_at A B X Wt hX hW c ch (j 0) (j 1))

include hX hW in
/-- The largest of the devices' maxima is the largest absolute value of the whole product. -/
theorem max_eq : (k0_pay147 (F := Ideal) (rowsC X Wt) : EReal) = refMax (refY A B) ix0 := by
  have habs : ∀ z : EReal, (∀ j, (FloatOps.absf (refY A B j) : EReal) ≤ z)
      ↔ ∀ r n, (FloatOps.absf (F := Ideal) (φ := .f32) (prodAt A B r n) : EReal) ≤ z := fun z =>
    ⟨fun g r n => by rw [← refY_at]; exact g _, fun g j => by rw [refY_idx]; exact g _ _⟩
  refine eq_of_forall_ge_iff fun z => ?_
  rw [pay147_le, refMax_le, habs]
  constructor
  · intro g
    rw [at512_all]
    intro d i
    rw [at1024_all]
    intro ch n
    rw [← total_at A B X Wt hX hW]
    exact ((locMax_le X Wt d z).1 (g (ix2 d (0 : Fin 128)))).2 ch (ix2 i n)
  · intro g
    suffices h : ∀ c : Dev nD, (locMax X Wt c : EReal) ≤ z from fun i => h (i 0)
    intro c
    refine (locMax_le X Wt c z).2 ⟨(absf_nonneg _).trans (g 0 0), fun ch j => ?_⟩
    rw [total_idx A B X Wt hX hW]
    exact g _ _

include hX hW in
/-- A device's result is its block of rows of the whole result. -/
theorem outC_eq (h : Layout.Tiles ⟨2, ![512, 8192]⟩ ⟨2, ![4096, 8192]⟩ 0 8) (c : Dev nD) :
    outC X Wt c = Layout.block ⟨2, ![512, 8192]⟩ ⟨2, ![4096, 8192]⟩ 0 8 c (refOut (refY A B)) h := by
  funext i
  show quantV (F := Ideal) (rowsC X Wt) (total X Wt c (chanOf i)) (within i) = refOut (refY A B) (h.idx c i)
  have h0 : h.idx c i 0 = at512 c (within i 0) := Fin.ext (by
    show c.val * 512 + (i 0).val = 512 * c.val + (i 0).val
    omega)
  have h1 : h.idx c i 1 = at1024 (chanOf i) (within i 1) := Fin.ext (by
    show (i 1).val = 1024 * ((i 1).val / 1024) + (i 1).val % 1024
    omega)
  rw [quantV_at, refOut_at, max_eq A B X Wt hX hW, total_idx A B X Wt hX hW, refY_idx, h0, h1]

/-- The program on eight devices computes, block by block, what the reference computes. -/
theorem algebraic : Cert.algebraic_KernelIdeal_ReferenceIdeal := by
  intro m g m' g' _ hm
  let A : LhsA := m' (((0 : Dev Cert.ReferenceIdeal.nD).tc : Thread Cert.ReferenceIdeal.nD Cert.ReferenceIdeal.τ).loc Cert.ReferenceIdeal.main_arg0)
  let B : RhsA := m' (((0 : Dev Cert.ReferenceIdeal.nD).tc : Thread Cert.ReferenceIdeal.nD Cert.ReferenceIdeal.τ).loc Cert.ReferenceIdeal.main_arg1)
  have hX : ∀ (c : Dev nD) (r : Fin 4096) (k : Fin 512), xs m g c (ix2 r k) = A (ix2 r (at512 c k)) := fun c r k => by
    rw [xs_eq, (hm c).1]
    refine congrArg A ?_
    funext a
    apply Fin.ext
    fin_cases a
    · rfl
    · show c.val * 512 + k.val = 512 * c.val + k.val
      omega
  have hW : ∀ (c : Dev nD) (k : Fin 512) (n : Fin 8192), ws m g c (ix2 k n) = B (ix2 (at512 c k) n) := fun c k n => by
    rw [ws_eq, (hm c).2]
    refine congrArg B ?_
    funext a
    apply Fin.ext
    fin_cases a
    · show c.val * 512 + k.val = 512 * c.val + k.val
      omega
    · rfl
  refine ⟨refOut (refY A B), ?_, ?_⟩
  · exact (θ_run defs _ _).mono (fun _ h c => ⟨(h.1 c).1.trans (outC_eq A B (xs m g) (ws m g) hX hW _ c), (h.1 c).2⟩)
      (run_arrays (F := Ideal) m g)
  · exact (θ_run Cert.ReferenceIdeal.defs _ _).mono (fun _ h => h 0) (Cert.ReferenceIdeal.Value.run (F := Ideal) m' g')

end Cert.KernelIdeal.Ring8

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Outcome
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference declares no semaphore and writes no argument. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.KernelIdeal.Ring8.frame_kernel, Cert.KernelIdeal.Ring8.frame_ideal, frame_reference, trivial,
  Cert.KernelIdeal.Ring8.algebraic⟩

end Cert.Proof

end
